-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite_queries_and_keys [hPre_finite_queries_and_keys : Cert.Pre_finite_queries_and_keys.Facts] (m : (ℓ : Loc Cert.KernelIdeal.nD Cert.KernelIdeal.τ Cert.KernelIdeal.sig) → Buf (Elt Ideal) ℓ) : Prop :=
  ∀ c : Dev Cert.KernelIdeal.nD,
    (Cert.Pre_finite_queries_and_keys.fn (F := Ideal) (m ((c.tc : Thread Cert.KernelIdeal.nD Cert.KernelIdeal.τ).loc Cert.KernelIdeal.main_arg0))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite_queries_and_keys [hPre_finite_queries_and_keys : Cert.Pre_finite_queries_and_keys.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_queries_and_keys.fn (F := Ideal) (m ((c.tc : Thread Cert.ReferenceIdeal.nD Cert.ReferenceIdeal.τ).loc Cert.ReferenceIdeal.main_arg0))) = (fun _ => 1#1)

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Reference2Ideal (m : (ℓ : Loc Cert.Reference2Ideal.nD Cert.Reference2Ideal.τ Cert.Reference2Ideal.sig) → Buf (Elt Ideal) ℓ) : Prop :=
  True

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Reference3Ideal (m : (ℓ : Loc Cert.Reference3Ideal.nD Cert.Reference3Ideal.τ Cert.Reference3Ideal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ r.2.sem = fun _ => 0)

def quiescent_KernelIdeal_pre_finite_queries_and_keys [hKernelIdeal : Cert.KernelIdeal.Facts] [hPre_finite_queries_and_keys : Cert.Pre_finite_queries_and_keys.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite_queries_and_keys m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0))
      ∧ r.2.sem = fun _ => 0)

def quiescent_ReferenceIdeal_pre_finite_queries_and_keys [hReferenceIdeal : Cert.ReferenceIdeal.Facts] [hPre_finite_queries_and_keys : Cert.Pre_finite_queries_and_keys.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite_queries_and_keys m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1)
      ∧ r.2.mem ((c.tc : Thread Cert.Kernel2.nD Cert.Kernel2.τ).loc Cert.Kernel2.main_arg2) = m ((c.tc : Thread Cert.Kernel2.nD Cert.Kernel2.τ).loc Cert.Kernel2.main_arg2))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1)
      ∧ r.2.mem ((c.tc : Thread Cert.Kernel3.nD Cert.Kernel3.τ).loc Cert.Kernel3.main_arg2) = m ((c.tc : Thread Cert.Kernel3.nD Cert.Kernel3.τ).loc Cert.Kernel3.main_arg2)
      ∧ r.2.mem ((c.tc : Thread Cert.Kernel3.nD Cert.Kernel3.τ).loc Cert.Kernel3.main_arg3) = m ((c.tc : Thread Cert.Kernel3.nD Cert.Kernel3.τ).loc Cert.Kernel3.main_arg3)
      ∧ r.2.mem ((c.tc : Thread Cert.Kernel3.nD Cert.Kernel3.τ).loc Cert.Kernel3.main_arg4) = m ((c.tc : Thread Cert.Kernel3.nD Cert.Kernel3.τ).loc Cert.Kernel3.main_arg4)
      ∧ r.2.mem ((c.tc : Thread Cert.Kernel3.nD Cert.Kernel3.τ).loc Cert.Kernel3.main_arg5) = m ((c.tc : Thread Cert.Kernel3.nD Cert.Kernel3.τ).loc Cert.Kernel3.main_arg5)
      ∧ r.2.mem ((c.tc : Thread Cert.Kernel3.nD Cert.Kernel3.τ).loc Cert.Kernel3.main_arg6) = m ((c.tc : Thread Cert.Kernel3.nD Cert.Kernel3.τ).loc Cert.Kernel3.main_arg6)
      ∧ r.2.mem ((c.tc : Thread Cert.Kernel3.nD Cert.Kernel3.τ).loc Cert.Kernel3.main_arg7) = m ((c.tc : Thread Cert.Kernel3.nD Cert.Kernel3.τ).loc Cert.Kernel3.main_arg7)
      ∧ r.2.mem ((c.tc : Thread Cert.Kernel3.nD Cert.Kernel3.τ).loc Cert.Kernel3.main_arg8) = m ((c.tc : Thread Cert.Kernel3.nD Cert.Kernel3.τ).loc Cert.Kernel3.main_arg8)
      ∧ r.2.mem ((c.tc : Thread Cert.Kernel3.nD Cert.Kernel3.τ).loc Cert.Kernel3.main_arg9) = m ((c.tc : Thread Cert.Kernel3.nD Cert.Kernel3.τ).loc Cert.Kernel3.main_arg9))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
      ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
      ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
      ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4)
      ∧ r.2.mem ((c.tc : Thread Cert.Kernel3Ideal.nD Cert.Kernel3Ideal.τ).loc Cert.Kernel3Ideal.main_arg5) = m ((c.tc : Thread Cert.Kernel3Ideal.nD Cert.Kernel3Ideal.τ).loc Cert.Kernel3Ideal.main_arg5)
      ∧ r.2.mem ((c.tc : Thread Cert.Kernel3Ideal.nD Cert.Kernel3Ideal.τ).loc Cert.Kernel3Ideal.main_arg6) = m ((c.tc : Thread Cert.Kernel3Ideal.nD Cert.Kernel3Ideal.τ).loc Cert.Kernel3Ideal.main_arg6)
      ∧ r.2.mem ((c.tc : Thread Cert.Kernel3Ideal.nD Cert.Kernel3Ideal.τ).loc Cert.Kernel3Ideal.main_arg7) = m ((c.tc : Thread Cert.Kernel3Ideal.nD Cert.Kernel3Ideal.τ).loc Cert.Kernel3Ideal.main_arg7)
      ∧ r.2.mem ((c.tc : Thread Cert.Kernel3Ideal.nD Cert.Kernel3Ideal.τ).loc Cert.Kernel3Ideal.main_arg8) = m ((c.tc : Thread Cert.Kernel3Ideal.nD Cert.Kernel3Ideal.τ).loc Cert.Kernel3Ideal.main_arg8)
      ∧ r.2.mem ((c.tc : Thread Cert.Kernel3Ideal.nD Cert.Kernel3Ideal.τ).loc Cert.Kernel3Ideal.main_arg9) = m ((c.tc : Thread Cert.Kernel3Ideal.nD Cert.Kernel3Ideal.τ).loc Cert.Kernel3Ideal.main_arg9))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2)
      ∧ r.2.mem ((c.tc : Thread Cert.Reference3Ideal.nD Cert.Reference3Ideal.τ).loc Cert.Reference3Ideal.main_arg3) = m ((c.tc : Thread Cert.Reference3Ideal.nD Cert.Reference3Ideal.τ).loc Cert.Reference3Ideal.main_arg3)
      ∧ r.2.mem ((c.tc : Thread Cert.Reference3Ideal.nD Cert.Reference3Ideal.τ).loc Cert.Reference3Ideal.main_arg4) = m ((c.tc : Thread Cert.Reference3Ideal.nD Cert.Reference3Ideal.τ).loc Cert.Reference3Ideal.main_arg4)
      ∧ r.2.mem ((c.tc : Thread Cert.Reference3Ideal.nD Cert.Reference3Ideal.τ).loc Cert.Reference3Ideal.main_arg5) = m ((c.tc : Thread Cert.Reference3Ideal.nD Cert.Reference3Ideal.τ).loc Cert.Reference3Ideal.main_arg5)
      ∧ r.2.mem ((c.tc : Thread Cert.Reference3Ideal.nD Cert.Reference3Ideal.τ).loc Cert.Reference3Ideal.main_arg6) = m ((c.tc : Thread Cert.Reference3Ideal.nD Cert.Reference3Ideal.τ).loc Cert.Reference3Ideal.main_arg6)
      ∧ r.2.mem ((c.tc : Thread Cert.Reference3Ideal.nD Cert.Reference3Ideal.τ).loc Cert.Reference3Ideal.main_arg7) = m ((c.tc : Thread Cert.Reference3Ideal.nD Cert.Reference3Ideal.τ).loc Cert.Reference3Ideal.main_arg7)
      ∧ r.2.mem ((c.tc : Thread Cert.Reference3Ideal.nD Cert.Reference3Ideal.τ).loc Cert.Reference3Ideal.main_arg8) = m ((c.tc : Thread Cert.Reference3Ideal.nD Cert.Reference3Ideal.τ).loc Cert.Reference3Ideal.main_arg8)
      ∧ r.2.mem ((c.tc : Thread Cert.Reference3Ideal.nD Cert.Reference3Ideal.τ).loc Cert.Reference3Ideal.main_arg9) = m ((c.tc : Thread Cert.Reference3Ideal.nD Cert.Reference3Ideal.τ).loc Cert.Reference3Ideal.main_arg9))
      ∧ r.2.sem = fun _ => 0)

def preserves_Kernel_KernelIdeal : Prop :=
  IdealRules.named_const.Statement Cert.KernelIdeal.κ "mask" .f32 0xF149F2CA#32 ⊥

def algebraic_KernelIdeal_ReferenceIdeal_pre_finite_queries_and_keys [hKernelIdeal : Cert.KernelIdeal.Facts] [hReferenceIdeal : Cert.ReferenceIdeal.Facts] [hPre_finite_queries_and_keys : Cert.Pre_finite_queries_and_keys.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite_queries_and_keys m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)) →
    ∃ (v0 : (c : Dev Cert.KernelIdeal.nD) → Buf (Elt Ideal) ((c.tc : Thread Cert.KernelIdeal.nD Cert.KernelIdeal.τ).loc Cert.KernelIdeal.main_v0_0)) (v1 : (c : Dev Cert.KernelIdeal.nD) → Buf (Elt Ideal) ((c.tc : Thread Cert.KernelIdeal.nD Cert.KernelIdeal.τ).loc Cert.KernelIdeal.main_v0_1)) (v2 : (c : Dev Cert.KernelIdeal.nD) → Buf (Elt Ideal) ((c.tc : Thread Cert.KernelIdeal.nD Cert.KernelIdeal.τ).loc Cert.KernelIdeal.main_v0_2)) (v3 : (c : Dev Cert.KernelIdeal.nD) → Buf (Elt Ideal) ((c.tc : Thread Cert.KernelIdeal.nD Cert.KernelIdeal.τ).loc Cert.KernelIdeal.main_v0_3)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0_0) = v0 c
          ∧ r.2.mem ((c.tc : Thread Cert.KernelIdeal.nD Cert.KernelIdeal.τ).loc Cert.KernelIdeal.main_v0_1) = v1 c
          ∧ r.2.mem ((c.tc : Thread Cert.KernelIdeal.nD Cert.KernelIdeal.τ).loc Cert.KernelIdeal.main_v0_2) = v2 c
          ∧ r.2.mem ((c.tc : Thread Cert.KernelIdeal.nD Cert.KernelIdeal.τ).loc Cert.KernelIdeal.main_v0_3) = v3 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v113) = v0 c
          ∧ r.2.mem ((c.tc : Thread Cert.ReferenceIdeal.nD Cert.ReferenceIdeal.τ).loc Cert.ReferenceIdeal.main_v114) = v1 c
          ∧ r.2.mem ((c.tc : Thread Cert.ReferenceIdeal.nD Cert.ReferenceIdeal.τ).loc Cert.ReferenceIdeal.main_v115) = v2 c
          ∧ r.2.mem ((c.tc : Thread Cert.ReferenceIdeal.nD Cert.ReferenceIdeal.τ).loc Cert.ReferenceIdeal.main_v116) = v3 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0))

def preserves_Kernel2_Kernel2Ideal : Prop :=
  True

def algebraic_Kernel2Ideal_Reference2Ideal [hKernel2Ideal : Cert.Kernel2Ideal.Facts] [hReference2Ideal : Cert.Reference2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)
      ∧ m' ((c.tc : Thread Cert.Reference2Ideal.nD Cert.Reference2Ideal.τ).loc Cert.Reference2Ideal.main_arg2) = m ((c.tc : Thread Cert.Kernel2Ideal.nD Cert.Kernel2Ideal.τ).loc Cert.Kernel2Ideal.main_arg2)) →
    ∃ (v0 : (c : Dev Cert.Kernel2Ideal.nD) → Buf (Elt Ideal) ((c.tc : Thread Cert.Kernel2Ideal.nD Cert.Kernel2Ideal.τ).loc Cert.Kernel2Ideal.main_v3)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v3) = v0 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
          ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v14) = v0 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1)
          ∧ r.2.mem ((c.tc : Thread Cert.Reference2Ideal.nD Cert.Reference2Ideal.τ).loc Cert.Reference2Ideal.main_arg2) = m' ((c.tc : Thread Cert.Reference2Ideal.nD Cert.Reference2Ideal.τ).loc Cert.Reference2Ideal.main_arg2))

def preserves_Kernel3_Kernel3Ideal : Prop :=
  True

def algebraic_Kernel3Ideal_Reference3Ideal [hKernel3Ideal : Cert.Kernel3Ideal.Facts] [hReference3Ideal : Cert.Reference3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)
      ∧ m' ((c.tc : Thread Cert.Reference3Ideal.nD Cert.Reference3Ideal.τ).loc Cert.Reference3Ideal.main_arg2) = m ((c.tc : Thread Cert.Kernel3Ideal.nD Cert.Kernel3Ideal.τ).loc Cert.Kernel3Ideal.main_arg2)
      ∧ m' ((c.tc : Thread Cert.Reference3Ideal.nD Cert.Reference3Ideal.τ).loc Cert.Reference3Ideal.main_arg3) = m ((c.tc : Thread Cert.Kernel3Ideal.nD Cert.Kernel3Ideal.τ).loc Cert.Kernel3Ideal.main_arg3)
      ∧ m' ((c.tc : Thread Cert.Reference3Ideal.nD Cert.Reference3Ideal.τ).loc Cert.Reference3Ideal.main_arg4) = m ((c.tc : Thread Cert.Kernel3Ideal.nD Cert.Kernel3Ideal.τ).loc Cert.Kernel3Ideal.main_arg4)
      ∧ m' ((c.tc : Thread Cert.Reference3Ideal.nD Cert.Reference3Ideal.τ).loc Cert.Reference3Ideal.main_arg5) = m ((c.tc : Thread Cert.Kernel3Ideal.nD Cert.Kernel3Ideal.τ).loc Cert.Kernel3Ideal.main_arg5)
      ∧ m' ((c.tc : Thread Cert.Reference3Ideal.nD Cert.Reference3Ideal.τ).loc Cert.Reference3Ideal.main_arg6) = m ((c.tc : Thread Cert.Kernel3Ideal.nD Cert.Kernel3Ideal.τ).loc Cert.Kernel3Ideal.main_arg6)
      ∧ m' ((c.tc : Thread Cert.Reference3Ideal.nD Cert.Reference3Ideal.τ).loc Cert.Reference3Ideal.main_arg7) = m ((c.tc : Thread Cert.Kernel3Ideal.nD Cert.Kernel3Ideal.τ).loc Cert.Kernel3Ideal.main_arg7)
      ∧ m' ((c.tc : Thread Cert.Reference3Ideal.nD Cert.Reference3Ideal.τ).loc Cert.Reference3Ideal.main_arg8) = m ((c.tc : Thread Cert.Kernel3Ideal.nD Cert.Kernel3Ideal.τ).loc Cert.Kernel3Ideal.main_arg8)
      ∧ m' ((c.tc : Thread Cert.Reference3Ideal.nD Cert.Reference3Ideal.τ).loc Cert.Reference3Ideal.main_arg9) = m ((c.tc : Thread Cert.Kernel3Ideal.nD Cert.Kernel3Ideal.τ).loc Cert.Kernel3Ideal.main_arg9)) →
    ∃ (v0 : (c : Dev Cert.Kernel3Ideal.nD) → Buf (Elt Ideal) ((c.tc : Thread Cert.Kernel3Ideal.nD Cert.Kernel3Ideal.τ).loc Cert.Kernel3Ideal.main_v28_0)) (v1 : (c : Dev Cert.Kernel3Ideal.nD) → Buf (Elt Ideal) ((c.tc : Thread Cert.Kernel3Ideal.nD Cert.Kernel3Ideal.τ).loc Cert.Kernel3Ideal.main_v28_1)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v28_0) = v0 c
          ∧ r.2.mem ((c.tc : Thread Cert.Kernel3Ideal.nD Cert.Kernel3Ideal.τ).loc Cert.Kernel3Ideal.main_v28_1) = v1 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
          ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
          ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
          ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4)
          ∧ r.2.mem ((c.tc : Thread Cert.Kernel3Ideal.nD Cert.Kernel3Ideal.τ).loc Cert.Kernel3Ideal.main_arg5) = m ((c.tc : Thread Cert.Kernel3Ideal.nD Cert.Kernel3Ideal.τ).loc Cert.Kernel3Ideal.main_arg5)
          ∧ r.2.mem ((c.tc : Thread Cert.Kernel3Ideal.nD Cert.Kernel3Ideal.τ).loc Cert.Kernel3Ideal.main_arg6) = m ((c.tc : Thread Cert.Kernel3Ideal.nD Cert.Kernel3Ideal.τ).loc Cert.Kernel3Ideal.main_arg6)
          ∧ r.2.mem ((c.tc : Thread Cert.Kernel3Ideal.nD Cert.Kernel3Ideal.τ).loc Cert.Kernel3Ideal.main_arg7) = m ((c.tc : Thread Cert.Kernel3Ideal.nD Cert.Kernel3Ideal.τ).loc Cert.Kernel3Ideal.main_arg7)
          ∧ r.2.mem ((c.tc : Thread Cert.Kernel3Ideal.nD Cert.Kernel3Ideal.τ).loc Cert.Kernel3Ideal.main_arg8) = m ((c.tc : Thread Cert.Kernel3Ideal.nD Cert.Kernel3Ideal.τ).loc Cert.Kernel3Ideal.main_arg8)
          ∧ r.2.mem ((c.tc : Thread Cert.Kernel3Ideal.nD Cert.Kernel3Ideal.τ).loc Cert.Kernel3Ideal.main_arg9) = m ((c.tc : Thread Cert.Kernel3Ideal.nD Cert.Kernel3Ideal.τ).loc Cert.Kernel3Ideal.main_arg9))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v26) = v0 c
          ∧ r.2.mem ((c.tc : Thread Cert.Reference3Ideal.nD Cert.Reference3Ideal.τ).loc Cert.Reference3Ideal.main_v41) = v1 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1)
          ∧ r.2.mem ((c.tc : Thread Cert.Reference3Ideal.nD Cert.Reference3Ideal.τ).loc Cert.Reference3Ideal.main_arg2) = m' ((c.tc : Thread Cert.Reference3Ideal.nD Cert.Reference3Ideal.τ).loc Cert.Reference3Ideal.main_arg2)
          ∧ r.2.mem ((c.tc : Thread Cert.Reference3Ideal.nD Cert.Reference3Ideal.τ).loc Cert.Reference3Ideal.main_arg3) = m' ((c.tc : Thread Cert.Reference3Ideal.nD Cert.Reference3Ideal.τ).loc Cert.Reference3Ideal.main_arg3)
          ∧ r.2.mem ((c.tc : Thread Cert.Reference3Ideal.nD Cert.Reference3Ideal.τ).loc Cert.Reference3Ideal.main_arg4) = m' ((c.tc : Thread Cert.Reference3Ideal.nD Cert.Reference3Ideal.τ).loc Cert.Reference3Ideal.main_arg4)
          ∧ r.2.mem ((c.tc : Thread Cert.Reference3Ideal.nD Cert.Reference3Ideal.τ).loc Cert.Reference3Ideal.main_arg5) = m' ((c.tc : Thread Cert.Reference3Ideal.nD Cert.Reference3Ideal.τ).loc Cert.Reference3Ideal.main_arg5)
          ∧ r.2.mem ((c.tc : Thread Cert.Reference3Ideal.nD Cert.Reference3Ideal.τ).loc Cert.Reference3Ideal.main_arg6) = m' ((c.tc : Thread Cert.Reference3Ideal.nD Cert.Reference3Ideal.τ).loc Cert.Reference3Ideal.main_arg6)
          ∧ r.2.mem ((c.tc : Thread Cert.Reference3Ideal.nD Cert.Reference3Ideal.τ).loc Cert.Reference3Ideal.main_arg7) = m' ((c.tc : Thread Cert.Reference3Ideal.nD Cert.Reference3Ideal.τ).loc Cert.Reference3Ideal.main_arg7)
          ∧ r.2.mem ((c.tc : Thread Cert.Reference3Ideal.nD Cert.Reference3Ideal.τ).loc Cert.Reference3Ideal.main_arg8) = m' ((c.tc : Thread Cert.Reference3Ideal.nD Cert.Reference3Ideal.τ).loc Cert.Reference3Ideal.main_arg8)
          ∧ r.2.mem ((c.tc : Thread Cert.Reference3Ideal.nD Cert.Reference3Ideal.τ).loc Cert.Reference3Ideal.main_arg9) = m' ((c.tc : Thread Cert.Reference3Ideal.nD Cert.Reference3Ideal.τ).loc Cert.Reference3Ideal.main_arg9))

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts) (hPre_finite_queries_and_keys : Cert.Pre_finite_queries_and_keys.Facts),
    quiescent_Kernel (hKernel := hKernel)
    ∧ quiescent_KernelIdeal (hKernelIdeal := hKernelIdeal)
    ∧ quiescent_KernelIdeal_pre_finite_queries_and_keys (hKernelIdeal := hKernelIdeal) (hPre_finite_queries_and_keys := hPre_finite_queries_and_keys)
    ∧ quiescent_ReferenceIdeal (hReferenceIdeal := hReferenceIdeal)
    ∧ quiescent_ReferenceIdeal_pre_finite_queries_and_keys (hReferenceIdeal := hReferenceIdeal) (hPre_finite_queries_and_keys := hPre_finite_queries_and_keys)
    ∧ quiescent_Kernel2 (hKernel2 := hKernel2)
    ∧ quiescent_Kernel2Ideal (hKernel2Ideal := hKernel2Ideal)
    ∧ quiescent_Reference2Ideal (hReference2Ideal := hReference2Ideal)
    ∧ quiescent_Kernel3 (hKernel3 := hKernel3)
    ∧ quiescent_Kernel3Ideal (hKernel3Ideal := hKernel3Ideal)
    ∧ quiescent_Reference3Ideal (hReference3Ideal := hReference3Ideal)
    ∧ preserves_Kernel_KernelIdeal
    ∧ algebraic_KernelIdeal_ReferenceIdeal_pre_finite_queries_and_keys (hKernelIdeal := hKernelIdeal) (hReferenceIdeal := hReferenceIdeal) (hPre_finite_queries_and_keys := hPre_finite_queries_and_keys)
    ∧ preserves_Kernel2_Kernel2Ideal
    ∧ algebraic_Kernel2Ideal_Reference2Ideal (hKernel2Ideal := hKernel2Ideal) (hReference2Ideal := hReference2Ideal)
    ∧ preserves_Kernel3_Kernel3Ideal
    ∧ algebraic_Kernel3Ideal_Reference3Ideal (hKernel3Ideal := hKernel3Ideal) (hReference3Ideal := hReference3Ideal)
-- ==== Pre_finite_queries_and_keys.lean ====
abbrev S16x2048x2560 : Shape := ⟨3, ![16, 2048, 2560]⟩
abbrev S16x2048x256 : Shape := ⟨3, ![16, 2048, 256]⟩
abbrev S_ : Shape := ⟨0, ![]⟩

class Facts : Prop where
  slices_S16x2048x2560_S16x2048x256_0_0_256 : S16x2048x2560.Slices ![0, 0, 256] S16x2048x256
  slices_S16x2048x2560_S16x2048x256_0_0_1024 : S16x2048x2560.Slices ![0, 0, 1024] S16x2048x256
  bcast_S_S16x2048x256 : S_.BroadcastsInDim S16x2048x256 (![] : Fin 0 → Fin S16x2048x256.rank)

variable [Facts]

def fn {F : FTy → Type} [FloatOps F] (main_arg0 : FVec F S16x2048x2560 .f32) : IVec S16x2048x256 1 :=
  let main_v0 : FVec F S16x2048x256 .f32 := (extractStridedSlice S16x2048x256 ![0, 0, 256] · slices_S16x2048x2560_S16x2048x256_0_0_256) main_arg0
  let main_v1 : FVec F S16x2048x256 .f32 := (extractStridedSlice S16x2048x256 ![0, 0, 1024] · slices_S16x2048x2560_S16x2048x256_0_0_1024) main_arg0
  let main_v2 : FVec F S16x2048x256 .f32 := Host.absf main_v0
  let main_cst : FVec F S_ .f32 := constant S_ .f32 0x7F800000#32
  let main_v3 : FVec F S16x2048x256 .f32 := broadcastInDim S16x2048x256 ![] bcast_S_S16x2048x256 main_cst
  let main_v4 : IVec S16x2048x256 1 := cmpf .olt main_v2 main_v3
  let main_v5 : FVec F S16x2048x256 .f32 := Host.absf main_v1
  let main_cst_0 : FVec F S_ .f32 := constant S_ .f32 0x7F800000#32
  let main_v6 : FVec F S16x2048x256 .f32 := broadcastInDim S16x2048x256 ![] bcast_S_S16x2048x256 main_cst_0
  let main_v7 : IVec S16x2048x256 1 := cmpf .olt main_v5 main_v6
  let main_v8 : IVec S16x2048x256 1 := andi main_v4 main_v7
  main_v8
-- ==== Kernel.lean ====
abbrev S16x2048x2560 : Shape := ⟨3, ![16, 2048, 2560]⟩
abbrev S16x2048x128 : Shape := ⟨3, ![16, 2048, 128]⟩
abbrev S1x2048x128 : Shape := ⟨3, ![1, 2048, 128]⟩
abbrev S1x2048x256 : Shape := ⟨3, ![1, 2048, 256]⟩
abbrev S2048x128 : Shape := ⟨2, ![2048, 128]⟩
abbrev S128x256 : Shape := ⟨2, ![128, 256]⟩
abbrev S512x256 : Shape := ⟨2, ![512, 256]⟩
abbrev S512x1 : Shape := ⟨2, ![512, 1]⟩
abbrev S1x128x256 : Shape := ⟨3, ![1, 128, 256]⟩
abbrev S1x256x256 : Shape := ⟨3, ![1, 256, 256]⟩
abbrev S256x256 : Shape := ⟨2, ![256, 256]⟩
abbrev S512 : Shape := ⟨1, ![512]⟩
abbrev S128x1 : Shape := ⟨2, ![128, 1]⟩

abbrev nBuf : Space → Nat
  | .hbm => 5
  | .vmem => 25
  | .smem => 0
  | _ => 0

abbrev bufTy : (tb : Table) → Fin (tcTables nBuf tb) → BufTy
  | .hbm, ⟨0, _⟩ => ⟨S16x2048x2560, .f32⟩
  | .hbm, ⟨1, _⟩ => ⟨S16x2048x128, .f32⟩
  | .hbm, ⟨2, _⟩ => ⟨S16x2048x128, .f32⟩
  | .hbm, ⟨3, _⟩ => ⟨S16x2048x128, .f32⟩
  | .hbm, ⟨4, _⟩ => ⟨S16x2048x128, .f32⟩
  | .local _ .vmem, ⟨0, _⟩ => ⟨S1x2048x128, .f32⟩
  | .local _ .vmem, ⟨1, _⟩ => ⟨S1x2048x128, .f32⟩
  | .local _ .vmem, ⟨2, _⟩ => ⟨S1x2048x128, .f32⟩
  | .local _ .vmem, ⟨3, _⟩ => ⟨S1x2048x128, .f32⟩
  | .local _ .vmem, ⟨4, _⟩ => ⟨S1x2048x128, .f32⟩
  | .local _ .vmem, ⟨5, _⟩ => ⟨S1x2048x128, .f32⟩
  | .local _ .vmem, ⟨6, _⟩ => ⟨S1x2048x128, .f32⟩
  | .local _ .vmem, ⟨7, _⟩ => ⟨S1x2048x128, .f32⟩
  | .local _ .vmem, ⟨8, _⟩ => ⟨S1x2048x128, .f32⟩
  | .local _ .vmem, ⟨9, _⟩ => ⟨S1x2048x128, .f32⟩
  | .local _ .vmem, ⟨10, _⟩ => ⟨S1x2048x128, .f32⟩
  | .local _ .vmem, ⟨11, _⟩ => ⟨S1x2048x128, .f32⟩
  | .local _ .vmem, ⟨12, _⟩ => ⟨S1x2048x128, .f32⟩
  | .local _ .vmem, ⟨13, _⟩ => ⟨S1x2048x128, .f32⟩
  | .local _ .vmem, ⟨14, _⟩ => ⟨S1x2048x128, .f32⟩
  | .local _ .vmem, ⟨15, _⟩ => ⟨S1x2048x128, .f32⟩
  | .local _ .vmem, ⟨16, _⟩ => ⟨S1x2048x128, .f32⟩
  | .local _ .vmem, ⟨17, _⟩ => ⟨S1x2048x128, .f32⟩
  | .local _ .vmem, ⟨18, _⟩ => ⟨S1x2048x128, .f32⟩
  | .local _ .vmem, ⟨19, _⟩ => ⟨S1x2048x128, .f32⟩
  | .local _ .vmem, ⟨20, _⟩ => ⟨S1x2048x256, .bf16⟩
  | .local _ .vmem, ⟨21, _⟩ => ⟨S1x2048x256, .bf16⟩
  | .local _ .vmem, ⟨22, _⟩ => ⟨S1x2048x256, .bf16⟩
  | .local _ .vmem, ⟨23, _⟩ => ⟨S1x2048x256, .f32⟩
  | .local _ .vmem, ⟨24, _⟩ => ⟨S1x2048x256, .f32⟩
  | _, _ => ⟨S16x2048x2560, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | _, _ => false

abbrev semScoped : Fin 0 → Bool
  | ⟨_, h⟩ => absurd h (Nat.not_lt_zero _)

abbrev dmaSemScoped : Fin 20 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | _ => false

abbrev sig : RefSig :=
  ofTc nBuf bufTy 0 20 bufScoped semScoped dmaSemScoped tileCredit tileCredit_eq_zero tileCredit_pos

abbrev main_arg0 : Ref sig .tc := ⟨.hbm, 0, rfl⟩
abbrev main_v0_0 : Ref sig .tc := ⟨.hbm, 1, rfl⟩
abbrev main_v0_1 : Ref sig .tc := ⟨.hbm, 2, rfl⟩
abbrev main_v0_2 : Ref sig .tc := ⟨.hbm, 3, rfl⟩
abbrev main_v0_3 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_stg9_0 : Ref sig .tc := ⟨.vmem, 18, rfl⟩
abbrev cc0_stg9_1 : Ref sig .tc := ⟨.vmem, 19, rfl⟩
abbrev cc0_scratch0 : Ref sig .tc := ⟨.vmem, 20, rfl⟩
abbrev cc0_scratch1 : Ref sig .tc := ⟨.vmem, 21, rfl⟩
abbrev cc0_scratch2 : Ref sig .tc := ⟨.vmem, 22, rfl⟩
abbrev cc0_scratch3 : Ref sig .tc := ⟨.vmem, 23, rfl⟩
abbrev cc0_scratch4 : Ref sig .tc := ⟨.vmem, 24, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17
abbrev cc0_sem9_0 : DmaSem sig := 18
abbrev cc0_sem9_1 : DmaSem sig := 19

abbrev nD : Nat := 1
abbrev τ : Topo := Topo.v7x

variable {F : FTy → Type} [FloatOps F]

abbrev grid0 : Pipeline.Grid := ⟨1, ![16], ![false]⟩

@[reducible] def k0_t1_loop : Scf.Loop 32 :=
  let c0_i32_54 : BitVec 32 := 0#32
  let c16_i32 : BitVec 32 := 16#32
  let v118 : BitVec 32 := Scalar.addi c0_i32_54 c16_i32
  let c1_i32_55 : BitVec 32 := 1#32
  ⟨c0_i32_54, v118, c1_i32_55⟩
def k0_mult1 (k0_t1 : Fin k0_t1_loop.trips) : BitVec 32 :=
  let c0_i32_54 : BitVec 32 := 0#32
  let c1_i32_55 : BitVec 32 := 1#32
  let arg16 : BitVec 32 := Scf.iv c0_i32_54 c1_i32_55 k0_t1
  let c16_i32_88 : BitVec 32 := 16#32
  let c0_i32_89 : BitVec 32 := 0#32
  let v156 : BitVec 1 := Scalar.cmpi .eq c16_i32_88 c0_i32_89
  let c1_i32_90 : BitVec 32 := 1#32
  let v157 : BitVec 32 := Scalar.select v156 c1_i32_90 c16_i32_88
  let v158 : BitVec 32 := Scalar.remsi arg16 v157
  let c0_i32_92 : BitVec 32 := 0#32
  let v160 : BitVec 1 := Scalar.cmpi .slt v158 c0_i32_92
  let c0_i32_93 : BitVec 32 := 0#32
  let v161 : BitVec 1 := Scalar.cmpi .slt v157 c0_i32_93
  let v162 : BitVec 1 := Scalar.xori v160 v161
  let c0_i32_91 : BitVec 32 := 0#32
  let v159 : BitVec 1 := Scalar.cmpi .ne v158 c0_i32_91
  let v163 : BitVec 1 := Scalar.andi v162 v159
  let v164 : BitVec 32 := Scalar.addi v158 v157
  let v165 : BitVec 32 := Scalar.select v163 v164 v158
  let c128_i32_94 : BitVec 32 := 128#32
  let v166 : BitVec 32 := Scalar.muli v165 c128_i32_94
  v166
def k0_mult2 (k0_t1 : Fin k0_t1_loop.trips) : BitVec 32 :=
  let c1792_i32 : BitVec 32 := 1792#32
  let c0_i32_96 : BitVec 32 := 0#32
  let c0_i32_54 : BitVec 32 := 0#32
  let c1_i32_55 : BitVec 32 := 1#32
  let arg16 : BitVec 32 := Scf.iv c0_i32_54 c1_i32_55 k0_t1
  let c16_i32_88 : BitVec 32 := 16#32
  let c0_i32_89 : BitVec 32 := 0#32
  let v156 : BitVec 1 := Scalar.cmpi .eq c16_i32_88 c0_i32_89
  let c1_i32_90 : BitVec 32 := 1#32
  let v157 : BitVec 32 := Scalar.select v156 c1_i32_90 c16_i32_88
  let v158 : BitVec 32 := Scalar.remsi arg16 v157
  let c0_i32_92 : BitVec 32 := 0#32
  let v160 : BitVec 1 := Scalar.cmpi .slt v158 c0_i32_92
  let c0_i32_93 : BitVec 32 := 0#32
  let v161 : BitVec 1 := Scalar.cmpi .slt v157 c0_i32_93
  let v162 : BitVec 1 := Scalar.xori v160 v161
  let c0_i32_91 : BitVec 32 := 0#32
  let v159 : BitVec 1 := Scalar.cmpi .ne v158 c0_i32_91
  let v163 : BitVec 1 := Scalar.andi v162 v159
  let v164 : BitVec 32 := Scalar.addi v158 v157
  let v165 : BitVec 32 := Scalar.select v163 v164 v158
  let c128_i32_94 : BitVec 32 := 128#32
  let v166 : BitVec 32 := Scalar.muli v165 c128_i32_94
  let v167 : BitVec 32 := v166
  let c64_i32_95 : BitVec 32 := 64#32
  let v168 : BitVec 32 := Scalar.subi v167 c64_i32_95
  let v169 : BitVec 32 := Scalar.maxsi c0_i32_96 v168
  let v170 : BitVec 32 := Scalar.minsi c1792_i32 v169
  v170
def k0_off1 (k0_t1 : Fin k0_t1_loop.trips) : Fin 3 → Nat :=
  let c0_i32_54 : BitVec 32 := 0#32
  let c1_i32_55 : BitVec 32 := 1#32
  let arg16 : BitVec 32 := Scf.iv c0_i32_54 c1_i32_55 k0_t1
  let c0_i32_82 : BitVec 32 := 0#32
  let v140 : BitVec 1 := Scalar.cmpi .sgt arg16 c0_i32_82
  let v141 : BitVec 32 := Scalar.extui v140
  let c0_i32_83 : BitVec 32 := 0#32
  let v142 : BitVec 1 := Scalar.cmpi .slt arg16 c0_i32_83
  let v143 : BitVec 32 := Scalar.extui v142
  let v144 : BitVec 32 := Scalar.subi v141 v143
  let c16_i32_81 : BitVec 32 := 16#32
  let c0_i32_84 : BitVec 32 := 0#32
  let v145 : BitVec 1 := Scalar.cmpi .sgt c16_i32_81 c0_i32_84
  let v146 : BitVec 32 := Scalar.extui v145
  let c0_i32_85 : BitVec 32 := 0#32
  let v147 : BitVec 1 := Scalar.cmpi .slt c16_i32_81 c0_i32_85
  let v148 : BitVec 32 := Scalar.extui v147
  let v149 : BitVec 32 := Scalar.subi v146 v148
  let v150 : BitVec 1 := Scalar.cmpi .ne v144 v149
  let v151 : BitVec 32 := Scalar.remsi arg16 c16_i32_81
  let c0_i32_86 : BitVec 32 := 0#32
  let v152 : BitVec 1 := Scalar.cmpi .ne v151 c0_i32_86
  let v153 : BitVec 1 := Scalar.andi v150 v152
  let v139 : BitVec 32 := Scalar.divsi arg16 c16_i32_81
  let c1_i32_87 : BitVec 32 := 1#32
  let v154 : BitVec 32 := Scalar.subi v139 c1_i32_87
  let v155 : BitVec 32 := Scalar.select v153 v154 v139
  let v172 : Index := Scalar.indexCast v155
  let c16_i32_88 : BitVec 32 := 16#32
  let c0_i32_89 : BitVec 32 := 0#32
  let v156 : BitVec 1 := Scalar.cmpi .eq c16_i32_88 c0_i32_89
  let c1_i32_90 : BitVec 32 := 1#32
  let v157 : BitVec 32 := Scalar.select v156 c1_i32_90 c16_i32_88
  let v158 : BitVec 32 := Scalar.remsi arg16 v157
  let c0_i32_92 : BitVec 32 := 0#32
  let v160 : BitVec 1 := Scalar.cmpi .slt v158 c0_i32_92
  let c0_i32_93 : BitVec 32 := 0#32
  let v161 : BitVec 1 := Scalar.cmpi .slt v157 c0_i32_93
  let v162 : BitVec 1 := Scalar.xori v160 v161
  let c0_i32_91 : BitVec 32 := 0#32
  let v159 : BitVec 1 := Scalar.cmpi .ne v158 c0_i32_91
  let v163 : BitVec 1 := Scalar.andi v162 v159
  let v164 : BitVec 32 := Scalar.addi v158 v157
  let v165 : BitVec 32 := Scalar.select v163 v164 v158
  let c128_i32_94 : BitVec 32 := 128#32
  let v166 : BitVec 32 := Scalar.muli v165 c128_i32_94
  let v167 : BitVec 32 := v166
  let v173 : Index := Scalar.indexCast v167
  let c0_97 : Index := 0#32
  ![v172.toNat, v173.toNat, 0]
def k0_off2 (k0_t1 : Fin k0_t1_loop.trips) : Fin 3 → Nat :=
  let c0_i32_54 : BitVec 32 := 0#32
  let c1_i32_55 : BitVec 32 := 1#32
  let arg16 : BitVec 32 := Scf.iv c0_i32_54 c1_i32_55 k0_t1
  let c0_i32_82 : BitVec 32 := 0#32
  let v140 : BitVec 1 := Scalar.cmpi .sgt arg16 c0_i32_82
  let v141 : BitVec 32 := Scalar.extui v140
  let c0_i32_83 : BitVec 32 := 0#32
  let v142 : BitVec 1 := Scalar.cmpi .slt arg16 c0_i32_83
  let v143 : BitVec 32 := Scalar.extui v142
  let v144 : BitVec 32 := Scalar.subi v141 v143
  let c16_i32_81 : BitVec 32 := 16#32
  let c0_i32_84 : BitVec 32 := 0#32
  let v145 : BitVec 1 := Scalar.cmpi .sgt c16_i32_81 c0_i32_84
  let v146 : BitVec 32 := Scalar.extui v145
  let c0_i32_85 : BitVec 32 := 0#32
  let v147 : BitVec 1 := Scalar.cmpi .slt c16_i32_81 c0_i32_85
  let v148 : BitVec 32 := Scalar.extui v147
  let v149 : BitVec 32 := Scalar.subi v146 v148
  let v150 : BitVec 1 := Scalar.cmpi .ne v144 v149
  let v151 : BitVec 32 := Scalar.remsi arg16 c16_i32_81
  let c0_i32_86 : BitVec 32 := 0#32
  let v152 : BitVec 1 := Scalar.cmpi .ne v151 c0_i32_86
  let v153 : BitVec 1 := Scalar.andi v150 v152
  let v139 : BitVec 32 := Scalar.divsi arg16 c16_i32_81
  let c1_i32_87 : BitVec 32 := 1#32
  let v154 : BitVec 32 := Scalar.subi v139 c1_i32_87
  let v155 : BitVec 32 := Scalar.select v153 v154 v139
  let v176 : Index := Scalar.indexCast v155
  let c1792_i32 : BitVec 32 := 1792#32
  let c0_i32_96 : BitVec 32 := 0#32
  let c16_i32_88 : BitVec 32 := 16#32
  let c0_i32_89 : BitVec 32 := 0#32
  let v156 : BitVec 1 := Scalar.cmpi .eq c16_i32_88 c0_i32_89
  let c1_i32_90 : BitVec 32 := 1#32
  let v157 : BitVec 32 := Scalar.select v156 c1_i32_90 c16_i32_88
  let v158 : BitVec 32 := Scalar.remsi arg16 v157
  let c0_i32_92 : BitVec 32 := 0#32
  let v160 : BitVec 1 := Scalar.cmpi .slt v158 c0_i32_92
  let c0_i32_93 : BitVec 32 := 0#32
  let v161 : BitVec 1 := Scalar.cmpi .slt v157 c0_i32_93
  let v162 : BitVec 1 := Scalar.xori v160 v161
  let c0_i32_91 : BitVec 32 := 0#32
  let v159 : BitVec 1 := Scalar.cmpi .ne v158 c0_i32_91
  let v163 : BitVec 1 := Scalar.andi v162 v159
  let v164 : BitVec 32 := Scalar.addi v158 v157
  let v165 : BitVec 32 := Scalar.select v163 v164 v158
  let c128_i32_94 : BitVec 32 := 128#32
  let v166 : BitVec 32 := Scalar.muli v165 c128_i32_94
  let v167 : BitVec 32 := v166
  let c64_i32_95 : BitVec 32 := 64#32
  let v168 : BitVec 32 := Scalar.subi v167 c64_i32_95
  let v169 : BitVec 32 := Scalar.maxsi c0_i32_96 v168
  let v170 : BitVec 32 := Scalar.minsi c1792_i32 v169
  let v171 : BitVec 32 := v170
  let v177 : Index := Scalar.indexCast v171
  let c0_98 : Index := 0#32
  ![v176.toNat, v177.toNat, 0]
def cc0_transform_0 (i : grid0.Coords) : Fin 3 → Nat :=
  let arg0 : BitVec 32 := BitVec.ofNat 32 (i 0).val
  let c0_i32 : BitVec 32 := 0#32
  let c2_i32 : BitVec 32 := 2#32
  let c0_i32_0 : BitVec 32 := 0#32
  ![arg0.toNat, c0_i32.toNat, c2_i32.toNat]

def cc0_transform_1 (i : grid0.Coords) : Fin 3 → Nat :=
  let arg0 : BitVec 32 := BitVec.ofNat 32 (i 0).val
  let c0_i32 : BitVec 32 := 0#32
  let c3_i32 : BitVec 32 := 3#32
  let c0_i32_0 : BitVec 32 := 0#32
  ![arg0.toNat, c0_i32.toNat, c3_i32.toNat]

def cc0_transform_2 (i : grid0.Coords) : Fin 3 → Nat :=
  let arg0 : BitVec 32 := BitVec.ofNat 32 (i 0).val
  let c0_i32 : BitVec 32 := 0#32
  let c8_i32 : BitVec 32 := 8#32
  let c0_i32_0 : BitVec 32 := 0#32
  ![arg0.toNat, c0_i32.toNat, c8_i32.toNat]

def cc0_transform_3 (i : grid0.Coords) : Fin 3 → Nat :=
  let arg0 : BitVec 32 := BitVec.ofNat 32 (i 0).val
  let c0_i32 : BitVec 32 := 0#32
  let c9_i32 : BitVec 32 := 9#32
  let c0_i32_0 : BitVec 32 := 0#32
  ![arg0.toNat, c0_i32.toNat, c9_i32.toNat]

def cc0_transform_4 (i : grid0.Coords) : Fin 3 → Nat :=
  let arg0 : BitVec 32 := BitVec.ofNat 32 (i 0).val
  let c0_i32 : BitVec 32 := 0#32
  let c14_i32 : BitVec 32 := 14#32
  let c0_i32_0 : BitVec 32 := 0#32
  ![arg0.toNat, c0_i32.toNat, c14_i32.toNat]

def cc0_transform_5 (i : grid0.Coords) : Fin 3 → Nat :=
  let arg0 : BitVec 32 := BitVec.ofNat 32 (i 0).val
  let c0_i32 : BitVec 32 := 0#32
  let c15_i32 : BitVec 32 := 15#32
  let c0_i32_0 : BitVec 32 := 0#32
  ![arg0.toNat, c0_i32.toNat, c15_i32.toNat]

def cc0_transform_6 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_7 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_8 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_9 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x2048x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x2048x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x2048x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x2048x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1x2048x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S1x2048x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S1x2048x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S1x2048x128 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S1x2048x128 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S1x2048x128 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]
-- ==== KernelIdeal.lean ====
variable {F : FTy → Type} [FloatOps F] [Named F]
def κ : String → Option EReal := fun
  | "mask" => some ⊥
  | _ => none
-- ==== ReferenceIdeal.lean ====
abbrev S16x2048x2560 : Shape := ⟨3, ![16, 2048, 2560]⟩
abbrev S16x2048x768 : Shape := ⟨3, ![16, 2048, 768]⟩
abbrev S16x2048x12x64 : Shape := ⟨4, ![16, 2048, 12, 64]⟩
abbrev S16x2048x4x64 : Shape := ⟨4, ![16, 2048, 4, 64]⟩
abbrev S_ : Shape := ⟨0, ![]⟩
abbrev S1 : Shape := ⟨1, ![1]⟩
abbrev S4 : Shape := ⟨1, ![4]⟩
abbrev S16x2048x1x4x64 : Shape := ⟨5, ![16, 2048, 1, 4, 64]⟩
abbrev S16x1x2048x4x64 : Shape := ⟨5, ![16, 1, 2048, 4, 64]⟩
abbrev S16x1x32x64x4x64 : Shape := ⟨6, ![16, 1, 32, 64, 4, 64]⟩
abbrev S16x1x2176x4x64 : Shape := ⟨5, ![16, 1, 2176, 4, 64]⟩
abbrev S16x1x34x64x4x64 : Shape := ⟨6, ![16, 1, 34, 64, 4, 64]⟩
abbrev S16x1x32x192x4x64 : Shape := ⟨6, ![16, 1, 32, 192, 4, 64]⟩
abbrev S16x1x32x4x64x192 : Shape := ⟨6, ![16, 1, 32, 4, 64, 192]⟩
abbrev S32 : Shape := ⟨1, ![32]⟩
abbrev S32x1 : Shape := ⟨2, ![32, 1]⟩
abbrev S64 : Shape := ⟨1, ![64]⟩
abbrev S1x64 : Shape := ⟨2, ![1, 64]⟩
abbrev S32x64 : Shape := ⟨2, ![32, 64]⟩
abbrev S192 : Shape := ⟨1, ![192]⟩
abbrev S1x192 : Shape := ⟨2, ![1, 192]⟩
abbrev S32x192 : Shape := ⟨2, ![32, 192]⟩
abbrev S32x1x192 : Shape := ⟨3, ![32, 1, 192]⟩
abbrev S32x64x1 : Shape := ⟨3, ![32, 64, 1]⟩
abbrev S32x64x192 : Shape := ⟨3, ![32, 64, 192]⟩
abbrev S1x4x1x1 : Shape := ⟨4, ![1, 4, 1, 1]⟩
abbrev S32x1x64x192 : Shape := ⟨4, ![32, 1, 64, 192]⟩
abbrev S32x4x64x192 : Shape := ⟨4, ![32, 4, 64, 192]⟩
abbrev S1x1x32x4x64x192 : Shape := ⟨6, ![1, 1, 32, 4, 64, 192]⟩
abbrev S16x1x32x4x64 : Shape := ⟨5, ![16, 1, 32, 4, 64]⟩
abbrev S16x1x32x4x64x1 : Shape := ⟨6, ![16, 1, 32, 4, 64, 1]⟩
abbrev S16x1x32x4x64x64 : Shape := ⟨6, ![16, 1, 32, 4, 64, 64]⟩
abbrev S16x1x32x64x4 : Shape := ⟨5, ![16, 1, 32, 64, 4]⟩
abbrev S16x1x2048x4 : Shape := ⟨4, ![16, 1, 2048, 4]⟩
abbrev S16x2048x1x4 : Shape := ⟨4, ![16, 2048, 1, 4]⟩
abbrev S16x2048x4 : Shape := ⟨3, ![16, 2048, 4]⟩
abbrev S16x2048x256 : Shape := ⟨3, ![16, 2048, 256]⟩
abbrev S16x2048x128 : Shape := ⟨3, ![16, 2048, 128]⟩

abbrev nBuf : Space → Nat
  | .hbm => 140
  | .vmem => 0
  | .smem => 0
  | _ => 0

abbrev hbmTy0_0 (i : Nat) : BufTy := match i % 128 with
  | 0 => ⟨S16x2048x2560, .f32⟩
  | 1 => ⟨S16x2048x768, .f32⟩
  | 2 => ⟨S16x2048x12x64, .f32⟩
  | 3 => ⟨S16x2048x768, .f32⟩
  | 4 => ⟨S16x2048x12x64, .f32⟩
  | 5 => ⟨S16x2048x768, .f32⟩
  | 6 => ⟨S16x2048x12x64, .f32⟩
  | 7 => ⟨S16x2048x4x64, .f32⟩
  | 8 => ⟨S16x2048x4x64, .f32⟩
  | 9 => ⟨S16x2048x4x64, .f32⟩
  | 10 => ⟨S_, .f32⟩
  | 11 => ⟨S1, .f32⟩
  | 12 => ⟨S_, .f32⟩
  | 13 => ⟨S1, .f32⟩
  | 14 => ⟨S_, .f32⟩
  | 15 => ⟨S1, .f32⟩
  | 16 => ⟨S_, .f32⟩
  | 17 => ⟨S1, .f32⟩
  | 18 => ⟨S4, .f32⟩
  | 19 => ⟨S16x2048x1x4x64, .f32⟩
  | 20 => ⟨S16x1x2048x4x64, .f32⟩
  | 21 => ⟨S16x1x32x64x4x64, .f32⟩
  | 22 => ⟨S16x2048x1x4x64, .f32⟩
  | 23 => ⟨S16x1x2048x4x64, .f32⟩
  | 24 => ⟨S_, .i32⟩
  | 25 => ⟨S_, .f32⟩
  | 26 => ⟨S16x1x2176x4x64, .f32⟩
  | 27 => ⟨S16x1x34x64x4x64, .f32⟩
  | 28 => ⟨S16x1x32x64x4x64, .f32⟩
  | 29 => ⟨S16x1x32x64x4x64, .f32⟩
  | 30 => ⟨S16x1x32x64x4x64, .f32⟩
  | 31 => ⟨S16x1x32x192x4x64, .f32⟩
  | 32 => ⟨S16x2048x1x4x64, .f32⟩
  | 33 => ⟨S16x1x2048x4x64, .f32⟩
  | 34 => ⟨S_, .i32⟩
  | 35 => ⟨S_, .f32⟩
  | 36 => ⟨S16x1x2176x4x64, .f32⟩
  | 37 => ⟨S16x1x34x64x4x64, .f32⟩
  | 38 => ⟨S16x1x32x64x4x64, .f32⟩
  | 39 => ⟨S16x1x32x64x4x64, .f32⟩
  | 40 => ⟨S16x1x32x64x4x64, .f32⟩
  | 41 => ⟨S16x1x32x192x4x64, .f32⟩
  | 42 => ⟨S16x1x32x4x64x192, .f32⟩
  | 43 => ⟨S_, .f32⟩
  | 44 => ⟨S16x1x32x4x64x192, .f32⟩
  | 45 => ⟨S16x1x32x4x64x192, .f32⟩
  | 46 => ⟨S32, .i32⟩
  | 47 => ⟨S32x1, .i32⟩
  | 48 => ⟨S_, .i32⟩
  | 49 => ⟨S32x1, .i32⟩
  | 50 => ⟨S32x1, .i32⟩
  | 51 => ⟨S64, .i32⟩
  | 52 => ⟨S1x64, .i32⟩
  | 53 => ⟨S32x64, .i32⟩
  | 54 => ⟨S32x64, .i32⟩
  | 55 => ⟨S32x64, .i32⟩
  | 56 => ⟨S32, .i32⟩
  | 57 => ⟨S32x1, .i32⟩
  | 58 => ⟨S_, .i32⟩
  | 59 => ⟨S32x1, .i32⟩
  | 60 => ⟨S32x1, .i32⟩
  | 61 => ⟨S_, .i32⟩
  | 62 => ⟨S32x1, .i32⟩
  | 63 => ⟨S32x1, .i32⟩
  | 64 => ⟨S192, .i32⟩
  | 65 => ⟨S1x192, .i32⟩
  | 66 => ⟨S32x192, .i32⟩
  | 67 => ⟨S32x192, .i32⟩
  | 68 => ⟨S32x192, .i32⟩
  | 69 => ⟨S32x1x192, .i32⟩
  | 70 => ⟨S32x64x1, .i32⟩
  | 71 => ⟨S32x64x192, .i32⟩
  | 72 => ⟨S32x64x192, .i32⟩
  | 73 => ⟨S32x64x192, .i32⟩
  | 74 => ⟨S32x64x192, .i32⟩
  | 75 => ⟨S_, .i32⟩
  | 76 => ⟨S32x64x192, .i32⟩
  | 77 => ⟨S32x64x192, .i1⟩
  | 78 => ⟨S32x1x192, .i32⟩
  | 79 => ⟨S_, .i32⟩
  | 80 => ⟨S32x1x192, .i32⟩
  | 81 => ⟨S32x1x192, .i1⟩
  | 82 => ⟨S32x64x192, .i1⟩
  | 83 => ⟨S32x64x192, .i1⟩
  | 84 => ⟨S32x1x192, .i32⟩
  | 85 => ⟨S_, .i32⟩
  | 86 => ⟨S32x1x192, .i32⟩
  | 87 => ⟨S32x1x192, .i1⟩
  | 88 => ⟨S32x64x192, .i1⟩
  | 89 => ⟨S32x64x192, .i1⟩
  | 90 => ⟨S32x64x192, .i32⟩
  | 91 => ⟨S_, .i32⟩
  | 92 => ⟨S32x64x192, .i32⟩
  | 93 => ⟨S32x64x192, .i32⟩
  | 94 => ⟨S32x64x192, .f32⟩
  | 95 => ⟨S1x4x1x1, .f32⟩
  | 96 => ⟨S1x4x1x1, .f32⟩
  | 97 => ⟨S32x1x64x192, .f32⟩
  | 98 => ⟨S32x4x64x192, .f32⟩
  | 99 => ⟨S32x4x64x192, .f32⟩
  | 100 => ⟨S32x4x64x192, .f32⟩
  | 101 => ⟨S32x1x64x192, .i1⟩
  | 102 => ⟨S1x1x32x4x64x192, .f32⟩
  | 103 => ⟨S16x1x32x4x64x192, .f32⟩
  | 104 => ⟨S16x1x32x4x64x192, .f32⟩
  | 105 => ⟨S_, .f32⟩
  | 106 => ⟨S_, .f32⟩
  | 107 => ⟨S16x1x32x4x64x192, .i1⟩
  | 108 => ⟨S16x1x32x4x64x192, .f32⟩
  | 109 => ⟨S16x1x32x4x64x192, .f32⟩
  | 110 => ⟨S_, .f32⟩
  | 111 => ⟨S16x1x32x4x64, .f32⟩
  | 112 => ⟨S16x1x32x4x64x1, .f32⟩
  | 113 => ⟨S16x1x32x4x64x192, .f32⟩
  | 114 => ⟨S16x1x32x4x64x192, .f32⟩
  | 115 => ⟨S16x1x32x4x64x192, .f32⟩
  | 116 => ⟨S_, .f32⟩
  | 117 => ⟨S16x1x32x4x64, .f32⟩
  | 118 => ⟨S16x1x32x4x64x1, .f32⟩
  | 119 => ⟨S16x1x32x4x64x1, .f32⟩
  | 120 => ⟨S16x1x32x4x64x1, .f32⟩
  | 121 => ⟨S16x1x32x4x64, .f32⟩
  | 122 => ⟨S16x1x32x4x64x192, .f32⟩
  | 123 => ⟨S16x1x32x4x64x192, .f32⟩
  | 124 => ⟨S16x1x32x4x64x64, .f32⟩
  | 125 => ⟨S16x1x32x64x4x64, .f32⟩
  | 126 => ⟨S16x1x2048x4x64, .f32⟩
  | 127 => ⟨S16x2048x1x4x64, .f32⟩
  | _ => ⟨S16x2048x2560, .f32⟩

abbrev hbmTy0_1 (i : Nat) : BufTy := match i % 128 with
  | 0 => ⟨S16x2048x4x64, .f32⟩
  | 1 => ⟨S16x1x32x64x4, .f32⟩
  | 2 => ⟨S16x1x2048x4, .f32⟩
  | 3 => ⟨S16x2048x1x4, .f32⟩
  | 4 => ⟨S16x2048x4, .f32⟩
  | 5 => ⟨S16x2048x256, .f32⟩
  | 6 => ⟨S16x2048x4x64, .f32⟩
  | 7 => ⟨S16x2048x256, .f32⟩
  | 8 => ⟨S16x2048x128, .f32⟩
  | 9 => ⟨S16x2048x128, .f32⟩
  | 10 => ⟨S16x2048x128, .f32⟩
  | 11 => ⟨S16x2048x128, .f32⟩
  | _ => ⟨S16x2048x2560, .f32⟩

abbrev hbmTy (i : Nat) : BufTy := match i / 128 with
  | 0 => hbmTy0_0 i
  | 1 => hbmTy0_1 i
  | _ => ⟨S16x2048x2560, .f32⟩

abbrev bufTy : (tb : Table) → Fin (tcTables nBuf tb) → BufTy
  | .hbm, ⟨i, _⟩ => hbmTy i
  | _, _ => ⟨S16x2048x2560, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_v1 : Ref sig .tc := ⟨.hbm, 2, rfl⟩
abbrev main_v2 : Ref sig .tc := ⟨.hbm, 3, rfl⟩
abbrev main_v3 : Ref sig .tc := ⟨.hbm, 4, rfl⟩
abbrev main_v4 : Ref sig .tc := ⟨.hbm, 5, rfl⟩
abbrev main_v5 : Ref sig .tc := ⟨.hbm, 6, rfl⟩
abbrev main_v6 : Ref sig .tc := ⟨.hbm, 7, rfl⟩
abbrev main_v7 : Ref sig .tc := ⟨.hbm, 8, rfl⟩
abbrev main_v8 : Ref sig .tc := ⟨.hbm, 9, rfl⟩
abbrev main_cst : Ref sig .tc := ⟨.hbm, 10, rfl⟩
abbrev main_v9 : Ref sig .tc := ⟨.hbm, 11, rfl⟩
abbrev main_cst_0 : Ref sig .tc := ⟨.hbm, 12, rfl⟩
abbrev main_v10 : Ref sig .tc := ⟨.hbm, 13, rfl⟩
abbrev main_cst_1 : Ref sig .tc := ⟨.hbm, 14, rfl⟩
abbrev main_v11 : Ref sig .tc := ⟨.hbm, 15, rfl⟩
abbrev main_cst_2 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩
abbrev main_v16 : Ref sig .tc := ⟨.hbm, 21, rfl⟩
abbrev main_v17 : Ref sig .tc := ⟨.hbm, 22, rfl⟩
abbrev main_v18 : Ref sig .tc := ⟨.hbm, 23, rfl⟩
abbrev main_c : Ref sig .tc := ⟨.hbm, 24, rfl⟩
abbrev main_call0_v0 : Ref sig .tc := ⟨.hbm, 25, rfl⟩
abbrev main_v19 : Ref sig .tc := ⟨.hbm, 26, rfl⟩
abbrev main_v20 : Ref sig .tc := ⟨.hbm, 27, rfl⟩
abbrev main_v21 : Ref sig .tc := ⟨.hbm, 28, rfl⟩
abbrev main_v22 : Ref sig .tc := ⟨.hbm, 29, rfl⟩
abbrev main_v23 : Ref sig .tc := ⟨.hbm, 30, rfl⟩
abbrev main_v24 : Ref sig .tc := ⟨.hbm, 31, rfl⟩
abbrev main_v25 : Ref sig .tc := ⟨.hbm, 32, rfl⟩
abbrev main_v26 : Ref sig .tc := ⟨.hbm, 33, rfl⟩
abbrev main_c_3 : Ref sig .tc := ⟨.hbm, 34, rfl⟩
abbrev main_call1_v0 : Ref sig .tc := ⟨.hbm, 35, rfl⟩
abbrev main_v27 : Ref sig .tc := ⟨.hbm, 36, rfl⟩
abbrev main_v28 : Ref sig .tc := ⟨.hbm, 37, rfl⟩
abbrev main_v29 : Ref sig .tc := ⟨.hbm, 38, rfl⟩
abbrev main_v30 : Ref sig .tc := ⟨.hbm, 39, rfl⟩
abbrev main_v31 : Ref sig .tc := ⟨.hbm, 40, rfl⟩
abbrev main_v32 : Ref sig .tc := ⟨.hbm, 41, rfl⟩
abbrev main_v33 : Ref sig .tc := ⟨.hbm, 42, rfl⟩
abbrev main_cst_4 : Ref sig .tc := ⟨.hbm, 43, rfl⟩
abbrev main_v34 : Ref sig .tc := ⟨.hbm, 44, rfl⟩
abbrev main_v35 : Ref sig .tc := ⟨.hbm, 45, rfl⟩
abbrev main_v36 : Ref sig .tc := ⟨.hbm, 46, rfl⟩
abbrev main_v37 : Ref sig .tc := ⟨.hbm, 47, rfl⟩
abbrev main_c_5 : Ref sig .tc := ⟨.hbm, 48, rfl⟩
abbrev main_v38 : Ref sig .tc := ⟨.hbm, 49, rfl⟩
abbrev main_v39 : Ref sig .tc := ⟨.hbm, 50, rfl⟩
abbrev main_v40 : Ref sig .tc := ⟨.hbm, 51, rfl⟩
abbrev main_v41 : Ref sig .tc := ⟨.hbm, 52, rfl⟩
abbrev main_v42 : Ref sig .tc := ⟨.hbm, 53, rfl⟩
abbrev main_v43 : Ref sig .tc := ⟨.hbm, 54, rfl⟩
abbrev main_v44 : Ref sig .tc := ⟨.hbm, 55, rfl⟩
abbrev main_v45 : Ref sig .tc := ⟨.hbm, 56, rfl⟩
abbrev main_v46 : Ref sig .tc := ⟨.hbm, 57, rfl⟩
abbrev main_c_6 : Ref sig .tc := ⟨.hbm, 58, rfl⟩
abbrev main_v47 : Ref sig .tc := ⟨.hbm, 59, rfl⟩
abbrev main_v48 : Ref sig .tc := ⟨.hbm, 60, rfl⟩
abbrev main_c_7 : Ref sig .tc := ⟨.hbm, 61, rfl⟩
abbrev main_v49 : Ref sig .tc := ⟨.hbm, 62, rfl⟩
abbrev main_v50 : Ref sig .tc := ⟨.hbm, 63, rfl⟩
abbrev main_v51 : Ref sig .tc := ⟨.hbm, 64, rfl⟩
abbrev main_v52 : Ref sig .tc := ⟨.hbm, 65, rfl⟩
abbrev main_v53 : Ref sig .tc := ⟨.hbm, 66, rfl⟩
abbrev main_v54 : Ref sig .tc := ⟨.hbm, 67, rfl⟩
abbrev main_v55 : Ref sig .tc := ⟨.hbm, 68, rfl⟩
abbrev main_v56 : Ref sig .tc := ⟨.hbm, 69, rfl⟩
abbrev main_v57 : Ref sig .tc := ⟨.hbm, 70, rfl⟩
abbrev main_v58 : Ref sig .tc := ⟨.hbm, 71, rfl⟩
abbrev main_v59 : Ref sig .tc := ⟨.hbm, 72, rfl⟩
abbrev main_v60 : Ref sig .tc := ⟨.hbm, 73, rfl⟩
abbrev main_v61 : Ref sig .tc := ⟨.hbm, 74, rfl⟩
abbrev main_c_8 : Ref sig .tc := ⟨.hbm, 75, rfl⟩
abbrev main_v62 : Ref sig .tc := ⟨.hbm, 76, rfl⟩
abbrev main_v63 : Ref sig .tc := ⟨.hbm, 77, rfl⟩
abbrev main_v64 : Ref sig .tc := ⟨.hbm, 78, rfl⟩
abbrev main_c_9 : Ref sig .tc := ⟨.hbm, 79, rfl⟩
abbrev main_v65 : Ref sig .tc := ⟨.hbm, 80, rfl⟩
abbrev main_v66 : Ref sig .tc := ⟨.hbm, 81, rfl⟩
abbrev main_v67 : Ref sig .tc := ⟨.hbm, 82, rfl⟩
abbrev main_v68 : Ref sig .tc := ⟨.hbm, 83, rfl⟩
abbrev main_v69 : Ref sig .tc := ⟨.hbm, 84, rfl⟩
abbrev main_c_10 : Ref sig .tc := ⟨.hbm, 85, rfl⟩
abbrev main_v70 : Ref sig .tc := ⟨.hbm, 86, rfl⟩
abbrev main_v71 : Ref sig .tc := ⟨.hbm, 87, rfl⟩
abbrev main_v72 : Ref sig .tc := ⟨.hbm, 88, rfl⟩
abbrev main_v73 : Ref sig .tc := ⟨.hbm, 89, rfl⟩
abbrev main_v74 : Ref sig .tc := ⟨.hbm, 90, rfl⟩
abbrev main_c_11 : Ref sig .tc := ⟨.hbm, 91, rfl⟩
abbrev main_v75 : Ref sig .tc := ⟨.hbm, 92, rfl⟩
abbrev main_v76 : Ref sig .tc := ⟨.hbm, 93, rfl⟩
abbrev main_v77 : Ref sig .tc := ⟨.hbm, 94, rfl⟩
abbrev main_v78 : Ref sig .tc := ⟨.hbm, 95, rfl⟩
abbrev main_v79 : Ref sig .tc := ⟨.hbm, 96, rfl⟩
abbrev main_v80 : Ref sig .tc := ⟨.hbm, 97, rfl⟩
abbrev main_v81 : Ref sig .tc := ⟨.hbm, 98, rfl⟩
abbrev main_v82 : Ref sig .tc := ⟨.hbm, 99, rfl⟩
abbrev main_v83 : Ref sig .tc := ⟨.hbm, 100, rfl⟩
abbrev main_v84 : Ref sig .tc := ⟨.hbm, 101, rfl⟩
abbrev main_v85 : Ref sig .tc := ⟨.hbm, 102, rfl⟩
abbrev main_v86 : Ref sig .tc := ⟨.hbm, 103, rfl⟩
abbrev main_v87 : Ref sig .tc := ⟨.hbm, 104, rfl⟩
abbrev main_cst_12 : Ref sig .tc := ⟨.hbm, 105, rfl⟩
abbrev main_call2_v0 : Ref sig .tc := ⟨.hbm, 106, rfl⟩
abbrev main_call2_v1 : Ref sig .tc := ⟨.hbm, 107, rfl⟩
abbrev main_call2_v2 : Ref sig .tc := ⟨.hbm, 108, rfl⟩
abbrev main_v88 : Ref sig .tc := ⟨.hbm, 109, rfl⟩
abbrev main_cst_13 : Ref sig .tc := ⟨.hbm, 110, rfl⟩
abbrev main_v89 : Ref sig .tc := ⟨.hbm, 111, rfl⟩
abbrev main_v90 : Ref sig .tc := ⟨.hbm, 112, rfl⟩
abbrev main_v91 : Ref sig .tc := ⟨.hbm, 113, rfl⟩
abbrev main_v92 : Ref sig .tc := ⟨.hbm, 114, rfl⟩
abbrev main_v93 : Ref sig .tc := ⟨.hbm, 115, rfl⟩
abbrev main_cst_14 : Ref sig .tc := ⟨.hbm, 116, rfl⟩
abbrev main_v94 : Ref sig .tc := ⟨.hbm, 117, rfl⟩
abbrev main_v95 : Ref sig .tc := ⟨.hbm, 118, rfl⟩
abbrev main_v96 : Ref sig .tc := ⟨.hbm, 119, rfl⟩
abbrev main_v97 : Ref sig .tc := ⟨.hbm, 120, rfl⟩
abbrev main_v98 : Ref sig .tc := ⟨.hbm, 121, rfl⟩
abbrev main_v99 : Ref sig .tc := ⟨.hbm, 122, rfl⟩
abbrev main_v100 : Ref sig .tc := ⟨.hbm, 123, rfl⟩
abbrev main_v101 : Ref sig .tc := ⟨.hbm, 124, rfl⟩
abbrev main_v102 : Ref sig .tc := ⟨.hbm, 125, rfl⟩
abbrev main_v103 : Ref sig .tc := ⟨.hbm, 126, rfl⟩
abbrev main_v104 : Ref sig .tc := ⟨.hbm, 127, rfl⟩
abbrev main_v105 : Ref sig .tc := ⟨.hbm, 128, rfl⟩
abbrev main_v106 : Ref sig .tc := ⟨.hbm, 129, rfl⟩
abbrev main_v107 : Ref sig .tc := ⟨.hbm, 130, rfl⟩
abbrev main_v108 : Ref sig .tc := ⟨.hbm, 131, rfl⟩
abbrev main_v109 : Ref sig .tc := ⟨.hbm, 132, rfl⟩
abbrev main_v110 : Ref sig .tc := ⟨.hbm, 133, rfl⟩
abbrev main_v111 : Ref sig .tc := ⟨.hbm, 134, rfl⟩
abbrev main_v112 : Ref sig .tc := ⟨.hbm, 135, rfl⟩
abbrev main_v113 : Ref sig .tc := ⟨.hbm, 136, rfl⟩
abbrev main_v114 : Ref sig .tc := ⟨.hbm, 137, rfl⟩
abbrev main_v115 : Ref sig .tc := ⟨.hbm, 138, rfl⟩
abbrev main_v116 : Ref sig .tc := ⟨.hbm, 139, rfl⟩

abbrev nD : Nat := 1
abbrev τ : Topo := Topo.v7x

variable {F : FTy → Type} [FloatOps F]
-- ==== Kernel2.lean ====
abbrev S16x2048x1024 : Shape := ⟨3, ![16, 2048, 1024]⟩
abbrev S1024 : Shape := ⟨1, ![1024]⟩
abbrev S1024x2560 : Shape := ⟨2, ![1024, 2560]⟩
abbrev S32768x1024 : Shape := ⟨2, ![32768, 1024]⟩
abbrev S1x1024 : Shape := ⟨2, ![1, 1024]⟩
abbrev S32768x2560 : Shape := ⟨2, ![32768, 2560]⟩
abbrev S512x1024 : Shape := ⟨2, ![512, 1024]⟩
abbrev S512x2560 : Shape := ⟨2, ![512, 2560]⟩
abbrev S512 : Shape := ⟨1, ![512]⟩
abbrev S512x1 : Shape := ⟨2, ![512, 1]⟩

abbrev nBuf : Space → Nat
  | .hbm => 7
  | .vmem => 6
  | .smem => 0
  | _ => 0

abbrev bufTy : (tb : Table) → Fin (tcTables nBuf tb) → BufTy
  | .hbm, ⟨0, _⟩ => ⟨S16x2048x1024, .f32⟩
  | .hbm, ⟨1, _⟩ => ⟨S1024, .f32⟩
  | .hbm, ⟨2, _⟩ => ⟨S1024x2560, .f32⟩
  | .hbm, ⟨3, _⟩ => ⟨S32768x1024, .f32⟩
  | .hbm, ⟨4, _⟩ => ⟨S1x1024, .f32⟩
  | .hbm, ⟨5, _⟩ => ⟨S1024x2560, .bf16⟩
  | .hbm, ⟨6, _⟩ => ⟨S32768x2560, .f32⟩
  | .local _ .vmem, ⟨0, _⟩ => ⟨S512x1024, .f32⟩
  | .local _ .vmem, ⟨1, _⟩ => ⟨S512x1024, .f32⟩
  | .local _ .vmem, ⟨2, _⟩ => ⟨S1x1024, .f32⟩
  | .local _ .vmem, ⟨3, _⟩ => ⟨S1024x2560, .bf16⟩
  | .local _ .vmem, ⟨4, _⟩ => ⟨S512x2560, .f32⟩
  | .local _ .vmem, ⟨5, _⟩ => ⟨S512x2560, .f32⟩
  | _, _ => ⟨S16x2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1024x2560 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S512x2560 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]
-- ==== Reference2Ideal.lean ====
abbrev S16x2048x1024 : Shape := ⟨3, ![16, 2048, 1024]⟩
abbrev S1024 : Shape := ⟨1, ![1024]⟩
abbrev S1024x2560 : Shape := ⟨2, ![1024, 2560]⟩
abbrev S_ : Shape := ⟨0, ![]⟩
abbrev S16x2048 : Shape := ⟨2, ![16, 2048]⟩
abbrev S16x2048x1 : Shape := ⟨3, ![16, 2048, 1]⟩
abbrev S1x1x1024 : Shape := ⟨3, ![1, 1, 1024]⟩
abbrev S16x2048x2560 : Shape := ⟨3, ![16, 2048, 2560]⟩
abbrev S32768x2560 : Shape := ⟨2, ![32768, 2560]⟩

abbrev nBuf : Space → Nat
  | .hbm => 21
  | .vmem => 0
  | .smem => 0
  | _ => 0

abbrev bufTy : (tb : Table) → Fin (tcTables nBuf tb) → BufTy
  | .hbm, ⟨0, _⟩ => ⟨S16x2048x1024, .f32⟩
  | .hbm, ⟨1, _⟩ => ⟨S1024, .f32⟩
  | .hbm, ⟨2, _⟩ => ⟨S1024x2560, .f32⟩
  | .hbm, ⟨3, _⟩ => ⟨S16x2048x1024, .f32⟩
  | .hbm, ⟨4, _⟩ => ⟨S_, .f32⟩
  | .hbm, ⟨5, _⟩ => ⟨S16x2048, .f32⟩
  | .hbm, ⟨6, _⟩ => ⟨S16x2048x1, .f32⟩
  | .hbm, ⟨7, _⟩ => ⟨S_, .f32⟩
  | .hbm, ⟨8, _⟩ => ⟨S16x2048x1, .f32⟩
  | .hbm, ⟨9, _⟩ => ⟨S16x2048x1, .f32⟩
  | .hbm, ⟨10, _⟩ => ⟨S_, .f32⟩
  | .hbm, ⟨11, _⟩ => ⟨S16x2048x1, .f32⟩
  | .hbm, ⟨12, _⟩ => ⟨S16x2048x1, .f32⟩
  | .hbm, ⟨13, _⟩ => ⟨S16x2048x1, .f32⟩
  | .hbm, ⟨14, _⟩ => ⟨S16x2048x1024, .f32⟩
  | .hbm, ⟨15, _⟩ => ⟨S16x2048x1024, .f32⟩
  | .hbm, ⟨16, _⟩ => ⟨S1x1x1024, .f32⟩
  | .hbm, ⟨17, _⟩ => ⟨S16x2048x1024, .f32⟩
  | .hbm, ⟨18, _⟩ => ⟨S16x2048x1024, .f32⟩
  | .hbm, ⟨19, _⟩ => ⟨S16x2048x2560, .f32⟩
  | .hbm, ⟨20, _⟩ => ⟨S32768x2560, .f32⟩
  | _, _ => ⟨S16x2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_cst_0 : Ref sig .tc := ⟨.hbm, 7, rfl⟩
abbrev main_v3 : Ref sig .tc := ⟨.hbm, 8, rfl⟩
abbrev main_v4 : Ref sig .tc := ⟨.hbm, 9, rfl⟩
abbrev main_cst_1 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩

abbrev nD : Nat := 1
abbrev τ : Topo := Topo.v7x

variable {F : FTy → Type} [FloatOps F]
-- ==== Kernel3.lean ====
abbrev S16x2048x1024 : Shape := ⟨3, ![16, 2048, 1024]⟩
abbrev S16x2048x256 : Shape := ⟨3, ![16, 2048, 256]⟩
abbrev S16x2048x4x64 : Shape := ⟨4, ![16, 2048, 4, 64]⟩
abbrev S16x2048x4 : Shape := ⟨3, ![16, 2048, 4]⟩
abbrev S1024x1024 : Shape := ⟨2, ![1024, 1024]⟩
abbrev S1024 : Shape := ⟨1, ![1024]⟩
abbrev S32768x256 : Shape := ⟨2, ![32768, 256]⟩
abbrev S32768x4 : Shape := ⟨2, ![32768, 4]⟩
abbrev S32768x4x64 : Shape := ⟨3, ![32768, 4, 64]⟩
abbrev S32768x128 : Shape := ⟨2, ![32768, 128]⟩
abbrev S32768x1024 : Shape := ⟨2, ![32768, 1024]⟩
abbrev S1x1024 : Shape := ⟨2, ![1, 1024]⟩
abbrev S512x1024 : Shape := ⟨2, ![512, 1024]⟩
abbrev S512x256 : Shape := ⟨2, ![512, 256]⟩
abbrev S512x128 : Shape := ⟨2, ![512, 128]⟩
abbrev S256x1024 : Shape := ⟨2, ![256, 1024]⟩
abbrev S128x1024 : Shape := ⟨2, ![128, 1024]⟩
abbrev S512 : Shape := ⟨1, ![512]⟩
abbrev S512x1 : Shape := ⟨2, ![512, 1]⟩

abbrev nBuf : Space → Nat
  | .hbm => 40
  | .vmem => 34
  | .smem => 0
  | _ => 0

abbrev bufTy : (tb : Table) → Fin (tcTables nBuf tb) → BufTy
  | .hbm, ⟨0, _⟩ => ⟨S16x2048x1024, .f32⟩
  | .hbm, ⟨1, _⟩ => ⟨S16x2048x256, .f32⟩
  | .hbm, ⟨2, _⟩ => ⟨S16x2048x4x64, .f32⟩
  | .hbm, ⟨3, _⟩ => ⟨S16x2048x4x64, .f32⟩
  | .hbm, ⟨4, _⟩ => ⟨S16x2048x4x64, .f32⟩
  | .hbm, ⟨5, _⟩ => ⟨S16x2048x4, .f32⟩
  | .hbm, ⟨6, _⟩ => ⟨S16x2048x4, .f32⟩
  | .hbm, ⟨7, _⟩ => ⟨S16x2048x4, .f32⟩
  | .hbm, ⟨8, _⟩ => ⟨S1024x1024, .f32⟩
  | .hbm, ⟨9, _⟩ => ⟨S1024, .f32⟩
  | .hbm, ⟨10, _⟩ => ⟨S32768x256, .f32⟩
  | .hbm, ⟨11, _⟩ => ⟨S32768x4, .f32⟩
  | .hbm, ⟨12, _⟩ => ⟨S32768x4x64, .f32⟩
  | .hbm, ⟨13, _⟩ => ⟨S32768x256, .f32⟩
  | .hbm, ⟨14, _⟩ => ⟨S32768x128, .f32⟩
  | .hbm, ⟨15, _⟩ => ⟨S32768x128, .f32⟩
  | .hbm, ⟨16, _⟩ => ⟨S32768x128, .f32⟩
  | .hbm, ⟨17, _⟩ => ⟨S32768x128, .f32⟩
  | .hbm, ⟨18, _⟩ => ⟨S32768x256, .f32⟩
  | .hbm, ⟨19, _⟩ => ⟨S32768x4, .f32⟩
  | .hbm, ⟨20, _⟩ => ⟨S32768x4x64, .f32⟩
  | .hbm, ⟨21, _⟩ => ⟨S32768x256, .f32⟩
  | .hbm, ⟨22, _⟩ => ⟨S32768x128, .f32⟩
  | .hbm, ⟨23, _⟩ => ⟨S32768x128, .f32⟩
  | .hbm, ⟨24, _⟩ => ⟨S32768x128, .f32⟩
  | .hbm, ⟨25, _⟩ => ⟨S32768x128, .f32⟩
  | .hbm, ⟨26, _⟩ => ⟨S32768x256, .f32⟩
  | .hbm, ⟨27, _⟩ => ⟨S32768x4, .f32⟩
  | .hbm, ⟨28, _⟩ => ⟨S32768x4x64, .f32⟩
  | .hbm, ⟨29, _⟩ => ⟨S32768x256, .f32⟩
  | .hbm, ⟨30, _⟩ => ⟨S32768x128, .f32⟩
  | .hbm, ⟨31, _⟩ => ⟨S32768x128, .f32⟩
  | .hbm, ⟨32, _⟩ => ⟨S32768x128, .f32⟩
  | .hbm, ⟨33, _⟩ => ⟨S32768x128, .f32⟩
  | .hbm, ⟨34, _⟩ => ⟨S32768x1024, .f32⟩
  | .hbm, ⟨35, _⟩ => ⟨S32768x256, .f32⟩
  | .hbm, ⟨36, _⟩ => ⟨S1024x1024, .bf16⟩
  | .hbm, ⟨37, _⟩ => ⟨S1x1024, .f32⟩
  | .hbm, ⟨38, _⟩ => ⟨S32768x1024, .f32⟩
  | .hbm, ⟨39, _⟩ => ⟨S32768x1024, .bf16⟩
  | .local _ .vmem, ⟨0, _⟩ => ⟨S512x1024, .f32⟩
  | .local _ .vmem, ⟨1, _⟩ => ⟨S512x1024, .f32⟩
  | .local _ .vmem, ⟨2, _⟩ => ⟨S512x256, .f32⟩
  | .local _ .vmem, ⟨3, _⟩ => ⟨S512x256, .f32⟩
  | .local _ .vmem, ⟨4, _⟩ => ⟨S512x128, .f32⟩
  | .local _ .vmem, ⟨5, _⟩ => ⟨S512x128, .f32⟩
  | .local _ .vmem, ⟨6, _⟩ => ⟨S512x128, .f32⟩
  | .local _ .vmem, ⟨7, _⟩ => ⟨S512x128, .f32⟩
  | .local _ .vmem, ⟨8, _⟩ => ⟨S512x128, .f32⟩
  | .local _ .vmem, ⟨9, _⟩ => ⟨S512x128, .f32⟩
  | .local _ .vmem, ⟨10, _⟩ => ⟨S512x128, .f32⟩
  | .local _ .vmem, ⟨11, _⟩ => ⟨S512x128, .f32⟩
  | .local _ .vmem, ⟨12, _⟩ => ⟨S512x128, .f32⟩
  | .local _ .vmem, ⟨13, _⟩ => ⟨S512x128, .f32⟩
  | .local _ .vmem, ⟨14, _⟩ => ⟨S512x128, .f32⟩
  | .local _ .vmem, ⟨15, _⟩ => ⟨S512x128, .f32⟩
  | .local _ .vmem, ⟨16, _⟩ => ⟨S512x128, .f32⟩
  | .local _ .vmem, ⟨17, _⟩ => ⟨S512x128, .f32⟩
  | .local _ .vmem, ⟨18, _⟩ => ⟨S512x128, .f32⟩
  | .local _ .vmem, ⟨19, _⟩ => ⟨S512x128, .f32⟩
  | .local _ .vmem, ⟨20, _⟩ => ⟨S512x128, .f32⟩
  | .local _ .vmem, ⟨21, _⟩ => ⟨S512x128, .f32⟩
  | .local _ .vmem, ⟨22, _⟩ => ⟨S512x128, .f32⟩
  | .local _ .vmem, ⟨23, _⟩ => ⟨S512x128, .f32⟩
  | .local _ .vmem, ⟨24, _⟩ => ⟨S512x128, .f32⟩
  | .local _ .vmem, ⟨25, _⟩ => ⟨S512x128, .f32⟩
  | .local _ .vmem, ⟨26, _⟩ => ⟨S512x128, .f32⟩
  | .local _ .vmem, ⟨27, _⟩ => ⟨S512x128, .f32⟩
  | .local _ .vmem, ⟨28, _⟩ => ⟨S1024x1024, .bf16⟩
  | .local _ .vmem, ⟨29, _⟩ => ⟨S1x1024, .f32⟩
  | .local _ .vmem, ⟨30, _⟩ => ⟨S512x1024, .f32⟩
  | .local _ .vmem, ⟨31, _⟩ => ⟨S512x1024, .f32⟩
  | .local _ .vmem, ⟨32, _⟩ => ⟨S512x1024, .bf16⟩
  | .local _ .vmem, ⟨33, _⟩ => ⟨S512x1024, .bf16⟩
  | _, _ => ⟨S16x2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | _, _ => false

abbrev semScoped : Fin 0 → Bool
  | ⟨_, h⟩ => absurd h (Nat.not_lt_zero _)

abbrev dmaSemScoped : Fin 34 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | _ => false

abbrev sig : RefSig :=
  ofTc nBuf bufTy 0 34 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩
abbrev main_v28_0 : Ref sig .tc := ⟨.hbm, 38, rfl⟩
abbrev main_v28_1 : Ref sig .tc := ⟨.hbm, 39, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_stg9_0 : Ref sig .tc := ⟨.vmem, 18, rfl⟩
abbrev cc0_stg9_1 : Ref sig .tc := ⟨.vmem, 19, rfl⟩
abbrev cc0_stg10_0 : Ref sig .tc := ⟨.vmem, 20, rfl⟩
abbrev cc0_stg10_1 : Ref sig .tc := ⟨.vmem, 21, rfl⟩
abbrev cc0_stg11_0 : Ref sig .tc := ⟨.vmem, 22, rfl⟩
abbrev cc0_stg11_1 : Ref sig .tc := ⟨.vmem, 23, rfl⟩
abbrev cc0_stg12_0 : Ref sig .tc := ⟨.vmem, 24, rfl⟩
abbrev cc0_stg12_1 : Ref sig .tc := ⟨.vmem, 25, rfl⟩
abbrev cc0_stg13_0 : Ref sig .tc := ⟨.vmem, 26, rfl⟩
abbrev cc0_stg13_1 : Ref sig .tc := ⟨.vmem, 27, rfl⟩
abbrev cc0_stg14_0 : Ref sig .tc := ⟨.vmem, 28, rfl⟩
abbrev cc0_stg15_0 : Ref sig .tc := ⟨.vmem, 29, rfl⟩
abbrev cc0_stg16_0 : Ref sig .tc := ⟨.vmem, 30, rfl⟩
abbrev cc0_stg16_1 : Ref sig .tc := ⟨.vmem, 31, rfl⟩
abbrev cc0_stg17_0 : Ref sig .tc := ⟨.vmem, 32, rfl⟩
abbrev cc0_stg17_1 : Ref sig .tc := ⟨.vmem, 33, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17
abbrev cc0_sem9_0 : DmaSem sig := 18
abbrev cc0_sem9_1 : DmaSem sig := 19
abbrev cc0_sem10_0 : DmaSem sig := 20
abbrev cc0_sem10_1 : DmaSem sig := 21
abbrev cc0_sem11_0 : DmaSem sig := 22
abbrev cc0_sem11_1 : DmaSem sig := 23
abbrev cc0_sem12_0 : DmaSem sig := 24
abbrev cc0_sem12_1 : DmaSem sig := 25
abbrev cc0_sem13_0 : DmaSem sig := 26
abbrev cc0_sem13_1 : DmaSem sig := 27
abbrev cc0_sem14_0 : DmaSem sig := 28
abbrev cc0_sem15_0 : DmaSem sig := 29
abbrev cc0_sem16_0 : DmaSem sig := 30
abbrev cc0_sem16_1 : DmaSem sig := 31
abbrev cc0_sem17_0 : DmaSem sig := 32
abbrev cc0_sem17_1 : DmaSem sig := 33

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_11 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_12 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_13 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_14 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_15 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_16 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_17 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x256 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S512x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S512x128 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S512x128 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S512x128 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S512x128 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S512x128 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 2 → Memref sig .tc .vmem S512x128 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]

abbrev stage0_13 : Fin 2 → Memref sig .tc .vmem S512x128 .f32 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true]

abbrev stage0_14 : Fin 1 → Memref sig .tc .vmem S1024x1024 .bf16 := fun | 0 => Memref.whole cc0_stg14_0 | ⟨_ + 1, h⟩ => absurd h (Nat.not_lt.2 (Nat.le_add_left _ _))
abbrev sem0_14 : Fin 1 → DmaSem sig := fun | 0 => cc0_sem14_0 | ⟨_ + 1, h⟩ => absurd h (Nat.not_lt.2 (Nat.le_add_left _ _))
abbrev reads0_14 : Fin grid0.rank → Bool := ![false]

abbrev stage0_15 : Fin 1 → Memref sig .tc .vmem S1x1024 .f32 := fun | 0 => Memref.whole cc0_stg15_0 | ⟨_ + 1, h⟩ => absurd h (Nat.not_lt.2 (Nat.le_add_left _ _))
abbrev sem0_15 : Fin 1 → DmaSem sig := fun | 0 => cc0_sem15_0 | ⟨_ + 1, h⟩ => absurd h (Nat.not_lt.2 (Nat.le_add_left _ _))
abbrev reads0_15 : Fin grid0.rank → Bool := ![false]

abbrev stage0_16 : Fin 2 → Memref sig .tc .vmem S512x1024 .f32 := fun | 0 => Memref.whole cc0_stg16_0 | 1 => Memref.whole cc0_stg16_1 | ⟨_ + 2, h⟩ => absurd h (Nat.not_lt.2 (Nat.le_add_left _ _))
abbrev sem0_16 : Fin 2 → DmaSem sig := fun | 0 => cc0_sem16_0 | 1 => cc0_sem16_1 | ⟨_ + 2, h⟩ => absurd h (Nat.not_lt.2 (Nat.le_add_left _ _))
abbrev reads0_16 : Fin grid0.rank → Bool := ![true]

abbrev stage0_17 : Fin 2 → Memref sig .tc .vmem S512x1024 .bf16 := fun | 0 => Memref.whole cc0_stg17_0 | 1 => Memref.whole cc0_stg17_1 | ⟨_ + 2, h⟩ => absurd h (Nat.not_lt.2 (Nat.le_add_left _ _))
abbrev sem0_17 : Fin 2 → DmaSem sig := fun | 0 => cc0_sem17_0 | 1 => cc0_sem17_1 | ⟨_ + 2, h⟩ => absurd h (Nat.not_lt.2 (Nat.le_add_left _ _))
abbrev reads0_17 : Fin grid0.rank → Bool := ![true]
-- ==== Reference3Ideal.lean ====
abbrev S16x2048x1024 : Shape := ⟨3, ![16, 2048, 1024]⟩
abbrev S16x2048x256 : Shape := ⟨3, ![16, 2048, 256]⟩
abbrev S16x2048x4x64 : Shape := ⟨4, ![16, 2048, 4, 64]⟩
abbrev S16x2048x4 : Shape := ⟨3, ![16, 2048, 4]⟩
abbrev S1024x1024 : Shape := ⟨2, ![1024, 1024]⟩
abbrev S1024 : Shape := ⟨1, ![1024]⟩
abbrev S16x2048x1x4 : Shape := ⟨4, ![16, 2048, 1, 4]⟩
abbrev S16x2048x3x4 : Shape := ⟨4, ![16, 2048, 3, 4]⟩
abbrev S_ : Shape := ⟨0, ![]⟩
abbrev S16x2048x1x4x64 : Shape := ⟨5, ![16, 2048, 1, 4, 64]⟩
abbrev S16x2048x3x4x64 : Shape := ⟨5, ![16, 2048, 3, 4, 64]⟩
abbrev S16x2048x3x4x1 : Shape := ⟨5, ![16, 2048, 3, 4, 1]⟩
abbrev S16x2048x768 : Shape := ⟨3, ![16, 2048, 768]⟩
abbrev S32768x1024 : Shape := ⟨2, ![32768, 1024]⟩
abbrev S16x2048 : Shape := ⟨2, ![16, 2048]⟩
abbrev S16x2048x1 : Shape := ⟨3, ![16, 2048, 1]⟩
abbrev S1x1x1024 : Shape := ⟨3, ![1, 1, 1024]⟩

abbrev nBuf : Space → Nat
  | .hbm => 58
  | .vmem => 0
  | .smem => 0
  | _ => 0

abbrev bufTy : (tb : Table) → Fin (tcTables nBuf tb) → BufTy
  | .hbm, ⟨0, _⟩ => ⟨S16x2048x1024, .f32⟩
  | .hbm, ⟨1, _⟩ => ⟨S16x2048x256, .f32⟩
  | .hbm, ⟨2, _⟩ => ⟨S16x2048x4x64, .f32⟩
  | .hbm, ⟨3, _⟩ => ⟨S16x2048x4x64, .f32⟩
  | .hbm, ⟨4, _⟩ => ⟨S16x2048x4x64, .f32⟩
  | .hbm, ⟨5, _⟩ => ⟨S16x2048x4, .f32⟩
  | .hbm, ⟨6, _⟩ => ⟨S16x2048x4, .f32⟩
  | .hbm, ⟨7, _⟩ => ⟨S16x2048x4, .f32⟩
  | .hbm, ⟨8, _⟩ => ⟨S1024x1024, .f32⟩
  | .hbm, ⟨9, _⟩ => ⟨S1024, .f32⟩
  | .hbm, ⟨10, _⟩ => ⟨S16x2048x1x4, .f32⟩
  | .hbm, ⟨11, _⟩ => ⟨S16x2048x1x4, .f32⟩
  | .hbm, ⟨12, _⟩ => ⟨S16x2048x1x4, .f32⟩
  | .hbm, ⟨13, _⟩ => ⟨S16x2048x3x4, .f32⟩
  | .hbm, ⟨14, _⟩ => ⟨S_, .f32⟩
  | .hbm, ⟨15, _⟩ => ⟨S16x2048x4, .f32⟩
  | .hbm, ⟨16, _⟩ => ⟨S_, .f32⟩
  | .hbm, ⟨17, _⟩ => ⟨S16x2048x4, .f32⟩
  | .hbm, ⟨18, _⟩ => ⟨S16x2048x4, .f32⟩
  | .hbm, ⟨19, _⟩ => ⟨S16x2048x1x4, .f32⟩
  | .hbm, ⟨20, _⟩ => ⟨S16x2048x3x4, .f32⟩
  | .hbm, ⟨21, _⟩ => ⟨S16x2048x3x4, .f32⟩
  | .hbm, ⟨22, _⟩ => ⟨S16x2048x3x4, .f32⟩
  | .hbm, ⟨23, _⟩ => ⟨S_, .f32⟩
  | .hbm, ⟨24, _⟩ => ⟨S16x2048x4, .f32⟩
  | .hbm, ⟨25, _⟩ => ⟨S16x2048x1x4, .f32⟩
  | .hbm, ⟨26, _⟩ => ⟨S16x2048x3x4, .f32⟩
  | .hbm, ⟨27, _⟩ => ⟨S16x2048x3x4, .f32⟩
  | .hbm, ⟨28, _⟩ => ⟨S16x2048x1x4x64, .f32⟩
  | .hbm, ⟨29, _⟩ => ⟨S16x2048x1x4x64, .f32⟩
  | .hbm, ⟨30, _⟩ => ⟨S16x2048x1x4x64, .f32⟩
  | .hbm, ⟨31, _⟩ => ⟨S16x2048x3x4x64, .f32⟩
  | .hbm, ⟨32, _⟩ => ⟨S16x2048x3x4x1, .f32⟩
  | .hbm, ⟨33, _⟩ => ⟨S16x2048x3x4x64, .f32⟩
  | .hbm, ⟨34, _⟩ => ⟨S16x2048x3x4x64, .f32⟩
  | .hbm, ⟨35, _⟩ => ⟨S16x2048x768, .f32⟩
  | .hbm, ⟨36, _⟩ => ⟨S16x2048x1024, .f32⟩
  | .hbm, ⟨37, _⟩ => ⟨S16x2048x1024, .f32⟩
  | .hbm, ⟨38, _⟩ => ⟨S16x2048x1024, .f32⟩
  | .hbm, ⟨39, _⟩ => ⟨S32768x1024, .f32⟩
  | .hbm, ⟨40, _⟩ => ⟨S16x2048x1024, .f32⟩
  | .hbm, ⟨41, _⟩ => ⟨S_, .f32⟩
  | .hbm, ⟨42, _⟩ => ⟨S16x2048, .f32⟩
  | .hbm, ⟨43, _⟩ => ⟨S16x2048x1, .f32⟩
  | .hbm, ⟨44, _⟩ => ⟨S_, .f32⟩
  | .hbm, ⟨45, _⟩ => ⟨S16x2048x1, .f32⟩
  | .hbm, ⟨46, _⟩ => ⟨S16x2048x1, .f32⟩
  | .hbm, ⟨47, _⟩ => ⟨S_, .f32⟩
  | .hbm, ⟨48, _⟩ => ⟨S16x2048x1, .f32⟩
  | .hbm, ⟨49, _⟩ => ⟨S16x2048x1, .f32⟩
  | .hbm, ⟨50, _⟩ => ⟨S16x2048x1, .f32⟩
  | .hbm, ⟨51, _⟩ => ⟨S16x2048x1024, .f32⟩
  | .hbm, ⟨52, _⟩ => ⟨S16x2048x1024, .f32⟩
  | .hbm, ⟨53, _⟩ => ⟨S1x1x1024, .f32⟩
  | .hbm, ⟨54, _⟩ => ⟨S16x2048x1024, .f32⟩
  | .hbm, ⟨55, _⟩ => ⟨S16x2048x1024, .f32⟩
  | .hbm, ⟨56, _⟩ => ⟨S32768x1024, .f32⟩
  | .hbm, ⟨57, _⟩ => ⟨S32768x1024, .bf16⟩
  | _, _ => ⟨S16x2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_cst : Ref sig .tc := ⟨.hbm, 14, rfl⟩
abbrev main_v4 : Ref sig .tc := ⟨.hbm, 15, rfl⟩
abbrev main_cst_0 : Ref sig .tc := ⟨.hbm, 16, rfl⟩
abbrev main_v5 : Ref sig .tc := ⟨.hbm, 17, rfl⟩
abbrev main_v6 : Ref sig .tc := ⟨.hbm, 18, rfl⟩
abbrev main_v7 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_cst_1 : Ref sig .tc := ⟨.hbm, 23, rfl⟩
abbrev main_v11 : Ref sig .tc := ⟨.hbm, 24, rfl⟩
abbrev main_v12 : Ref sig .tc := ⟨.hbm, 25, rfl⟩
abbrev main_v13 : Ref sig .tc := ⟨.hbm, 26, rfl⟩
abbrev main_v14 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_v18 : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩
abbrev main_cst_2 : Ref sig .tc := ⟨.hbm, 41, rfl⟩
abbrev main_v28 : Ref sig .tc := ⟨.hbm, 42, rfl⟩
abbrev main_v29 : Ref sig .tc := ⟨.hbm, 43, rfl⟩
abbrev main_cst_3 : Ref sig .tc := ⟨.hbm, 44, rfl⟩
abbrev main_v30 : Ref sig .tc := ⟨.hbm, 45, rfl⟩
abbrev main_v31 : Ref sig .tc := ⟨.hbm, 46, rfl⟩
abbrev main_cst_4 : Ref sig .tc := ⟨.hbm, 47, rfl⟩
abbrev main_v32 : Ref sig .tc := ⟨.hbm, 48, rfl⟩
abbrev main_v33 : Ref sig .tc := ⟨.hbm, 49, rfl⟩
abbrev main_v34 : Ref sig .tc := ⟨.hbm, 50, rfl⟩
abbrev main_v35 : Ref sig .tc := ⟨.hbm, 51, rfl⟩
abbrev main_v36 : Ref sig .tc := ⟨.hbm, 52, rfl⟩
abbrev main_v37 : Ref sig .tc := ⟨.hbm, 53, rfl⟩
abbrev main_v38 : Ref sig .tc := ⟨.hbm, 54, rfl⟩
abbrev main_v39 : Ref sig .tc := ⟨.hbm, 55, rfl⟩
abbrev main_v40 : Ref sig .tc := ⟨.hbm, 56, rfl⟩
abbrev main_v41 : Ref sig .tc := ⟨.hbm, 57, rfl⟩

abbrev nD : Nat := 1
abbrev τ : Topo := Topo.v7x

variable {F : FTy → Type} [FloatOps F]
-- ==== Proof.InProj.lean ====
/- The input projection: the row-blocked product of the normalised rows by the weight matrix is the
   reference's product, element by element, over the extended reals. -/
module

public import proofs.«01_k».proof.Defs
public import proofs.«01_k».proof.Proof.Gen.Kernel2Ideal.Value
public import proofs.«01_k».proof.Proof.Gen.Reference2Ideal.Read
public import Idealize.ShloMosaic.Lib.Pipeline.ValueKit
public import Idealize.ShloMosaic.Lib.Pointwise
public import Idealize.ShloMosaic.Lib.StableHlo.ReadAt

@[expose] public section

set_option maxRecDepth 16384

noncomputable section

namespace Cert.Proof.InProj

open Idealize.ShloMosaic Idealize.ShloMosaic.TcCoe Idealize.SL.Sem
open Cert.Kernel2Ideal Cert.Kernel2Ideal.Gen

variable (m : (ℓ : Loc nD τ sig) → Buf (Elt Ideal) ℓ)

/-- Where each window's block lies at point `t`. -/
theorem idx (t : Fin cfg0.N) : win0_0.index t = ![(grid0.coords t 0).val, 0] ∧ win0_1.index t = ![0, 0]
    ∧ win0_2.index t = ![0, 0] ∧ win0_3.index t = ![(grid0.coords t 0).val, 0] := by
  revert t
  decide +kernel

/-- A block of the input rows, read: row `512 t + r` of the flattened tokens. -/
theorem blk_x (c : Dev nD) (t : Fin cfg0.N) (r : Fin 512) (k : Fin 1024)
    (j : (⟨3, ![16, 2048, 1024]⟩ : Shape).Idx) (h0 : (j 0).val * 2048 + (j 1).val = (grid0.coords t 0).val * 512 + r.val) (h2 : (j 2).val = k.val) :
    iblk m c 0 t (ix2 r k) = m ((c : Thread nD τ).loc main_arg0) j := by
  idx_vars j
  blk_simp [iblk, (idx t).1]
  unfold V
  after_reads_at
  blk_ext [(idx t).1]

/-- The gains' one block, read. -/
theorem blk_g (c : Dev nD) (t : Fin cfg0.N) (k : Fin 1024) :
    iblk m c 1 t (ix2 0 k) = m ((c : Thread nD τ).loc main_arg1) (ix1 k) := by
  blk_simp [iblk, (idx t).2.1]
  unfold V
  after_reads_at
  blk_ext [(idx t).2.1]

/-- The weights' one block, read. -/
theorem blk_w (c : Dev nD) (t : Fin cfg0.N) (k : Fin 1024) (n : Fin 2560) :
    iblk m c 2 t (ix2 k n) = m ((c : Thread nD τ).loc main_arg2) (ix2 k n) := by
  blk_simp [iblk, (idx t).2.2.1]
  unfold V
  after_reads_at
  blk_ext [(idx t).2.2.1]

/-- The projection's array after the run is the reference's. -/
theorem final (c : Dev nD) : (dats m 0 c).arrAt 3 cfg0.N =
    Cert.Reference2Ideal.Read.val_main_v14 (F := Ideal) (m ((c : Thread nD τ).loc main_arg0)) (m ((c : Thread nD τ).loc main_arg1))
      (m ((c : Thread nD τ).loc main_arg2)) := by
  refine (dats m 0 c).arrAt_eq_of_covers 3 _ (by decide +kernel) fun t hf y => ?_
  blk_simp
  rw [after0_3]
  frame_out
  unfold Cert.Reference2Ideal.Read.val_main_v14 Cert.Reference2Ideal.Read.val_main_v13 Cert.Reference2Ideal.Read.val_main_v12 Cert.Reference2Ideal.Read.val_main_v11 Cert.Reference2Ideal.Read.val_main_v10 Cert.Reference2Ideal.Read.val_main_v9 Cert.Reference2Ideal.Read.val_main_v8 Cert.Reference2Ideal.Read.val_main_v7 Cert.Reference2Ideal.Read.val_main_v6 Cert.Reference2Ideal.Read.val_main_v5 Cert.Reference2Ideal.Read.val_main_v4 Cert.Reference2Ideal.Read.val_main_v3 Cert.Reference2Ideal.Read.val_main_v2 Cert.Reference2Ideal.Read.val_main_v1 Cert.Reference2Ideal.Read.val_main_v0 Cert.Reference2Ideal.Read.val_main_cst Cert.Reference2Ideal.Read.val_main_cst_0 Cert.Reference2Ideal.Read.val_main_cst_1
  pointwise [k0_pay1]
  have e0 : (((View.whole main_v3).slice (win0_3.rect t)).emb y 0 : ℕ) = (grid0.coords t 0).val * 512 + (y 0).val := by
    blk_simp [(idx t).2.2.2]
  have e1 : ((View.whole main_v3).slice (win0_3.rect t)).emb y 1 = y 1 := by
    apply Fin.ext; blk_simp [(idx t).2.2.2]
  have hx := fun k : Fin 1024 => blk_x m c t (y 0) k (ix3 ⟨(((View.whole main_v3).slice (win0_3.rect t)).emb y 0 : ℕ) / 2048, by
                have h : (y 0).val < 512 := (y 0).isLt
                have h' : (grid0.coords t 0).val < 64 := (grid0.coords t 0).isLt
                omega⟩
                ⟨(((View.whole main_v3).slice (win0_3.rect t)).emb y 0 : ℕ) % 2048, by omega⟩ k) (by
      show _ / 2048 * 2048 + _ % 2048 = _
      omega) rfl
  have hw := fun k : Fin 1024 => blk_w m c t k (y 1)
  simp only [hx, blk_g, hw, e1]

/-- The reference leaves its argument arrays as they were, and no counter raised: it declares none. -/
theorem frame_reference : Cert.quiescent_Reference2Ideal := fun m g _ =>
  (θ_run Cert.Reference2Ideal.defs _ _).mono
    (fun r h => ⟨fun c => (h c).2, sem_eq_zero_of_no_sems (by decide) r.2⟩)
    (Cert.Reference2Ideal.Value.run (F := Ideal) m g)

/-- From equal arguments the projection and its reference leave equal results. -/
theorem algebraic : Cert.algebraic_Kernel2Ideal_Reference2Ideal := by
  pair_intro
  · run_from Cert.Kernel2Ideal.Value.run_blocks m g
  · run_from Cert.Reference2Ideal.Value.run m' g'
    exact (final m c).symm

end Cert.Proof.InProj

end
-- ==== Proof.OutMath.lean ====
/- The output projection as plain arithmetic on the extended reals: three outputs of one head mixed by
   the weights of their log-sums, the pooled features beside them, a product, a sum and a normalisation. -/
module

public import Idealize.ShloMosaic.Lib.Pointwise

@[expose] public section

noncomputable section

namespace Cert.Proof.OutMath

open Idealize.ShloMosaic

/-- The weight of the group whose log-sum is `l`, among three with log-sums `p`, `q` and `r`. -/
def wt (p q r l : EReal) : EReal :=
  Ideal.div (Ideal.exp (l - max (max p q) r))
    (Ideal.exp (p - max (max p q) r) + Ideal.exp (q - max (max p q) r) + Ideal.exp (r - max (max p q) r))

/-- One group's number picked out of three. -/
def pick (g : ℕ) (p q r : EReal) : EReal := if g < 1 then p else if g - 1 < 1 then q else r

/-- The array of one group's outputs. -/
abbrev Outs := (⟨4, ![16, 2048, 4, 64]⟩ : Shape).Idx → EReal
/-- The array of one group's log-sums. -/
abbrev Lses := (⟨3, ![16, 2048, 4]⟩ : Shape).Idx → EReal

variable (X : (⟨3, ![16, 2048, 1024]⟩ : Shape).Idx → EReal) (pool : (⟨3, ![16, 2048, 256]⟩ : Shape).Idx → EReal)
  (o0 o1 o2 : Outs) (l0 l1 l2 : Lses)
  (W : (⟨2, ![1024, 1024]⟩ : Shape).Idx → EReal) (gain : (⟨1, ![1024]⟩ : Shape).Idx → EReal)
  (b : Fin 16) (i : Fin 2048)

/-- Lane `d` of head `h` of group `g`, weighted. -/
def part (g : Fin 3) (h : Fin 4) (d : Fin 64) : EReal :=
  pick g.val (o0 (ix4 b i h d)) (o1 (ix4 b i h d)) (o2 (ix4 b i h d))
    * wt (l0 (ix3 b i h)) (l1 (ix3 b i h)) (l2 (ix3 b i h)) (pick g.val (l0 (ix3 b i h)) (l1 (ix3 b i h)) (l2 (ix3 b i h)))

/-- Feature `k` of a token before the projection: pooled first, then the groups one after another. -/
def mix (k : Fin 1024) : EReal :=
  if h : k.val < 256 then pool (ix3 b i ⟨k.val, h⟩)
  else part o0 o1 o2 l0 l1 l2 b i ⟨(k.val - 256) / 256, by omega⟩ ⟨(k.val - 256) / 64 % 4, by omega⟩ ⟨(k.val - 256) % 64, by omega⟩

/-- The token's stream after the projection is added. -/
def stream (n : Fin 1024) : EReal :=
  X (ix3 b i n) + ∑ k : Fin 1024, mix pool o0 o1 o2 l0 l1 l2 b i k * W (ix2 k n)

/-- A row scaled by its root mean square and by the gains. -/
def normed (f : Fin 1024 → EReal) (g : EReal) (n : Fin 1024) : EReal :=
  f n * Ideal.rsqrt (Ideal.div (∑ k : Fin 1024, f k * f k) (Ideal.ofBits .f32 1149239296#32)
    + Ideal.ofBits .f32 897988541#32) * g

/-- A run of a sum written over indices of its own. -/
theorem run_of (F : ℕ → EReal) (a w : ℕ) : ∑ x : Fin w, F (a + x.val) = ∑ x ∈ Finset.range w, F (a + x) :=
  (Finset.sum_range fun x => F (a + x)).symm

/-- A sum over the 1024 features, taken the way the tiles take it: the pooled ones, then the three
    groups' lower halves, then their upper halves. -/
theorem sum_split (f : Fin 1024 → EReal) : ∑ k, f k =
    (∑ x : Fin 256, f ⟨x.val, by omega⟩) + (∑ x : Fin 128, f ⟨256 + x.val, by omega⟩) + (∑ x : Fin 128, f ⟨512 + x.val, by omega⟩)
      + (∑ x : Fin 128, f ⟨768 + x.val, by omega⟩) + (∑ x : Fin 128, f ⟨384 + x.val, by omega⟩)
      + (∑ x : Fin 128, f ⟨640 + x.val, by omega⟩) + ∑ x : Fin 128, f ⟨896 + x.val, by omega⟩ := by
  obtain ⟨F, hF⟩ : ∃ F : ℕ → EReal, ∀ k : Fin 1024, f k = F k.val :=
    ⟨fun k => if h : k < 1024 then f ⟨k, h⟩ else 0, fun k => by simp⟩
  simp only [hF]
  have h0 := run_of F 0 256
  simp only [Nat.zero_add] at h0
  rw [h0, run_of F 256, run_of F 512, run_of F 768, run_of F 384, run_of F 640, run_of F 896, ← Finset.sum_range F,
    show 1024 = 256 + 128 + 128 + 128 + 128 + 128 + 128 by rfl]
  simp only [Finset.sum_range_add]
  norm_num only
  abel

end Cert.Proof.OutMath

end
-- ==== Proof.OutTile.lean ====
/- One tile of the output projection: what the body stores into its two blocks, given what its input blocks hold. -/
module

public import proofs.«01_k».proof.Proof.Gen.Kernel3Ideal.Value
public import proofs.«01_k».proof.Proof.OutMath
public import Idealize.ShloMosaic.Lib.Pipeline.ValueKit
public import Idealize.ShloMosaic.Lib.Pointwise

@[expose] public section

set_option maxRecDepth 16384

noncomputable section

namespace Cert.Proof.OutTile

open Idealize.ShloMosaic Idealize.ShloMosaic.TcCoe Idealize.SL.Sem
open Cert.Kernel3Ideal Cert.Kernel3Ideal.Gen Cert.Proof.OutMath

/-- A pooled feature. -/
theorem mix_pool (pool : (⟨3, ![16, 2048, 256]⟩ : Shape).Idx → EReal) (o0 o1 o2 : Outs) (l0 l1 l2 : Lses) (b : Fin 16) (i : Fin 2048)
    (x : Fin 256) : mix pool o0 o1 o2 l0 l1 l2 b i ⟨x.val, by omega⟩ = pool (ix3 b i x) := by
  unfold mix
  rw [dif_pos x.isLt]

/-- A feature of a group, by group, head and lane. -/
theorem mix_of (pool : (⟨3, ![16, 2048, 256]⟩ : Shape).Idx → EReal) (o0 o1 o2 : Outs) (l0 l1 l2 : Lses) (b : Fin 16) (i : Fin 2048)
    (k : Fin 1024) (g : Fin 3) (h : Fin 4) (d : Fin 64) (e : k.val = 256 + g.val * 256 + (h.val * 64 + d.val)) :
    mix pool o0 o1 o2 l0 l1 l2 b i k = part o0 o1 o2 l0 l1 l2 b i g h d := by
  unfold mix
  rw [dif_neg (by omega)]
  congr 1 <;> apply Fin.ext <;> simp only <;> omega

variable (x0 : Vec Ideal S512x1024 .f32) (x1 : Vec Ideal S512x256 .f32) (x2 x3 x4 x5 x6 x7 x8 x9 x10 x11 x12 x13 : Vec Ideal S512x128 .f32)
  (x14 : Vec Ideal S1024x1024 .bf16) (x15 : Vec Ideal S1x1024 .f32)

/-- The first block's entries in terms of the input blocks'. -/
theorem first_out (r : Fin 512) (n : Fin 1024) : out0_16 x0 x1 x2 x3 x4 x5 x6 x7 x8 x9 x10 x11 x12 x13 x14 x15 (ix2 r n)
    = x0 (ix2 r n) + (∑ x : Fin 256, x1 (ix2 r x) * x14 (ix2 ⟨x.val, by omega⟩ n))
      + (∑ x : Fin 128, x2 (ix2 r x) * wt (x8 (ix2 r x)) (x10 (ix2 r x)) (x12 (ix2 r x)) (x8 (ix2 r x)) * x14 (ix2 ⟨256 + x.val, by omega⟩ n))
      + (∑ x : Fin 128, x4 (ix2 r x) * wt (x8 (ix2 r x)) (x10 (ix2 r x)) (x12 (ix2 r x)) (x10 (ix2 r x)) * x14 (ix2 ⟨512 + x.val, by omega⟩ n))
      + (∑ x : Fin 128, x6 (ix2 r x) * wt (x8 (ix2 r x)) (x10 (ix2 r x)) (x12 (ix2 r x)) (x12 (ix2 r x)) * x14 (ix2 ⟨768 + x.val, by omega⟩ n))
      + (∑ x : Fin 128, x3 (ix2 r x) * wt (x9 (ix2 r x)) (x11 (ix2 r x)) (x13 (ix2 r x)) (x9 (ix2 r x)) * x14 (ix2 ⟨384 + x.val, by omega⟩ n))
      + (∑ x : Fin 128, x5 (ix2 r x) * wt (x9 (ix2 r x)) (x11 (ix2 r x)) (x13 (ix2 r x)) (x11 (ix2 r x)) * x14 (ix2 ⟨640 + x.val, by omega⟩ n))
      + (∑ x : Fin 128, x7 (ix2 r x) * wt (x9 (ix2 r x)) (x11 (ix2 r x)) (x13 (ix2 r x)) (x13 (ix2 r x)) * x14 (ix2 ⟨896 + x.val, by omega⟩ n)) := by
  frame_out
  pointwise [k0_pay1, k0_pay3, k0_pay4, k0_pay5, k0_pay6, k0_pay7, k0_pay8, k0_pay9, k0_pay10, k0_pay11, k0_pay12, k0_pay13, k0_pay14, k0_pay15, k0_pay16, k0_pay17, k0_pay18, k0_pay19, k0_pay20, k0_pay21, k0_pay22, k0_pay23, k0_pay24, k0_pay25]
  rfl

/-- The second block's entries in terms of the first's. -/
theorem second_out (r : Fin 512) (n : Fin 1024) : out0_17 x0 x1 x2 x3 x4 x5 x6 x7 x8 x9 x10 x11 x12 x13 x14 x15 (ix2 r n)
    = normed (fun k => out0_16 x0 x1 x2 x3 x4 x5 x6 x7 x8 x9 x10 x11 x12 x13 x14 x15 (ix2 r k)) (x15 (ix2 0 n)) n := by
  have e : ∀ k, out0_16 x0 x1 x2 x3 x4 x5 x6 x7 x8 x9 x10 x11 x12 x13 x14 x15 (ix2 r k)
      = k0_pay1 (k0_pay22 x0 x1 x2 x3 x4 x5 x6 x7 x8 x9 x10 x11 x12 x13 x14 x15) (k0_pay23 x0 x1 x2 x3 x4 x5 x6 x7 x8 x9 x10 x11 x12 x13 x14 x15)
        (k0_pay24 x0 x1 x2 x3 x4 x5 x6 x7 x8 x9 x10 x11 x12 x13 x14 x15) (k0_pay25 x0 x1 x2 x3 x4 x5 x6 x7 x8 x9 x10 x11 x12 x13 x14 x15)
        (View.ld x5 r0_3) (View.ld x14 r0_8) (View.ld x7 r0_3) (View.ld x14 r0_9) (ix2 r k) := by
    intro k
    frame_out
  simp only [e]
  unfold out0_17 k0_pay2
  generalize k0_pay1 (F := Ideal) _ _ _ _ _ _ _ _ = q
  frame_out
  pointwise []
  rfl

variable (X : (⟨3, ![16, 2048, 1024]⟩ : Shape).Idx → EReal) (pool : (⟨3, ![16, 2048, 256]⟩ : Shape).Idx → EReal)
  (o0 o1 o2 : Outs) (l0 l1 l2 : Lses) (W : (⟨2, ![1024, 1024]⟩ : Shape).Idx → EReal) (b : Fin 16) (i : Fin 2048) (r : Fin 512)

/-- One strip of a group's lanes, weighted and multiplied: the part of the token's sum that runs over those lanes. -/
theorem strip (g : Fin 3) (a : ℕ) (ha : a ≤ 128) (o p q s : Vec Ideal S512x128 .f32) (hw : ∀ k n, x14 (ix2 k n) = W (ix2 k n))
    (ho : ∀ (x : Fin 128) (h : Fin 4) (d : Fin 64), h.val * 64 + d.val = a + x.val →
      o (ix2 r x) = pick g.val (o0 (ix4 b i h d)) (o1 (ix4 b i h d)) (o2 (ix4 b i h d)))
    (hp : ∀ (x : Fin 128) (h : Fin 4), h.val = (a + x.val) / 64 → p (ix2 r x) = l0 (ix3 b i h))
    (hq : ∀ (x : Fin 128) (h : Fin 4), h.val = (a + x.val) / 64 → q (ix2 r x) = l1 (ix3 b i h))
    (hs : ∀ (x : Fin 128) (h : Fin 4), h.val = (a + x.val) / 64 → s (ix2 r x) = l2 (ix3 b i h)) (n : Fin 1024) (e : Fin 128 → Fin 1024)
    (he : ∀ x, (e x).val = 256 + g.val * 256 + (a + x.val)) :
    (∑ x : Fin 128, o (ix2 r x) * wt (p (ix2 r x)) (q (ix2 r x)) (s (ix2 r x)) (pick g.val (p (ix2 r x)) (q (ix2 r x)) (s (ix2 r x))) * x14 (ix2 (e x) n))
      = ∑ x : Fin 128, mix pool o0 o1 o2 l0 l1 l2 b i (e x) * W (ix2 (e x) n) := by
  refine Finset.sum_congr rfl fun x _ => ?_
  obtain ⟨h, hh⟩ : ∃ h : Fin 4, h.val = (a + x.val) / 64 := ⟨⟨_, by omega⟩, rfl⟩
  obtain ⟨d, hd⟩ : ∃ d : Fin 64, d.val = (a + x.val) % 64 := ⟨⟨_, by omega⟩, rfl⟩
  rw [mix_of pool o0 o1 o2 l0 l1 l2 b i _ g h d (by rw [he]; omega), ho x h d (by omega), hp x h hh, hq x h hh, hs x h hh, hw]
  rfl

/-- When row `r` of every input block holds token `(b, i)`, row `r` of the first block is that token's stream. -/
theorem stream_out (hx : ∀ n, x0 (ix2 r n) = X (ix3 b i n)) (hp : ∀ x, x1 (ix2 r x) = pool (ix3 b i x)) (hw : ∀ k n, x14 (ix2 k n) = W (ix2 k n))
  (hol0 : ∀ (x : Fin 128) (h : Fin 4) (d : Fin 64), h.val * 64 + d.val = x.val → x2 (ix2 r x) = o0 (ix4 b i h d))
  (hll0 : ∀ (x : Fin 128) (h : Fin 4), h.val = x.val / 64 → x8 (ix2 r x) = l0 (ix3 b i h))
  (hou0 : ∀ (x : Fin 128) (h : Fin 4) (d : Fin 64), h.val * 64 + d.val = 128 + x.val → x3 (ix2 r x) = o0 (ix4 b i h d))
  (hlu0 : ∀ (x : Fin 128) (h : Fin 4), h.val = (128 + x.val) / 64 → x9 (ix2 r x) = l0 (ix3 b i h))
  (hol1 : ∀ (x : Fin 128) (h : Fin 4) (d : Fin 64), h.val * 64 + d.val = x.val → x4 (ix2 r x) = o1 (ix4 b i h d))
  (hll1 : ∀ (x : Fin 128) (h : Fin 4), h.val = x.val / 64 → x10 (ix2 r x) = l1 (ix3 b i h))
  (hou1 : ∀ (x : Fin 128) (h : Fin 4) (d : Fin 64), h.val * 64 + d.val = 128 + x.val → x5 (ix2 r x) = o1 (ix4 b i h d))
  (hlu1 : ∀ (x : Fin 128) (h : Fin 4), h.val = (128 + x.val) / 64 → x11 (ix2 r x) = l1 (ix3 b i h))
  (hol2 : ∀ (x : Fin 128) (h : Fin 4) (d : Fin 64), h.val * 64 + d.val = x.val → x6 (ix2 r x) = o2 (ix4 b i h d))
  (hll2 : ∀ (x : Fin 128) (h : Fin 4), h.val = x.val / 64 → x12 (ix2 r x) = l2 (ix3 b i h))
  (hou2 : ∀ (x : Fin 128) (h : Fin 4) (d : Fin 64), h.val * 64 + d.val = 128 + x.val → x7 (ix2 r x) = o2 (ix4 b i h d))
  (hlu2 : ∀ (x : Fin 128) (h : Fin 4), h.val = (128 + x.val) / 64 → x13 (ix2 r x) = l2 (ix3 b i h))
    (n : Fin 1024) : out0_16 x0 x1 x2 x3 x4 x5 x6 x7 x8 x9 x10 x11 x12 x13 x14 x15 (ix2 r n)
      = stream X pool o0 o1 o2 l0 l1 l2 W b i n := by
  rw [first_out]
  unfold stream
  rw [sum_split, hx]
  simp only [← add_assoc]
  congr 1; congr 1; congr 1; congr 1; congr 1; congr 1; congr 1
  · refine Finset.sum_congr rfl fun x _ => ?_
    rw [mix_pool, hp, hw]
  · exact strip x14 pool o0 o1 o2 l0 l1 l2 W b i r 0 0 (by omega) x2 x8 x10 x12 hw (fun x h d e => (hol0 x h d (by omega)).trans rfl) (fun x h e => hll0 x h (by omega)) (fun x h e => hll1 x h (by omega)) (fun x h e => hll2 x h (by omega)) n _ (fun x => by simp only [Fin.isValue, Fin.val_ofNat] <;> omega)
  · exact strip x14 pool o0 o1 o2 l0 l1 l2 W b i r 1 0 (by omega) x4 x8 x10 x12 hw (fun x h d e => (hol1 x h d (by omega)).trans rfl) (fun x h e => hll0 x h (by omega)) (fun x h e => hll1 x h (by omega)) (fun x h e => hll2 x h (by omega)) n _ (fun x => by simp only [Fin.isValue, Fin.val_ofNat] <;> omega)
  · exact strip x14 pool o0 o1 o2 l0 l1 l2 W b i r 2 0 (by omega) x6 x8 x10 x12 hw (fun x h d e => (hol2 x h d (by omega)).trans rfl) (fun x h e => hll0 x h (by omega)) (fun x h e => hll1 x h (by omega)) (fun x h e => hll2 x h (by omega)) n _ (fun x => by simp only [Fin.isValue, Fin.val_ofNat] <;> omega)
  · exact strip x14 pool o0 o1 o2 l0 l1 l2 W b i r 0 128 (by omega) x3 x9 x11 x13 hw (fun x h d e => (hou0 x h d (by omega)).trans rfl) (fun x h e => hlu0 x h (by omega)) (fun x h e => hlu1 x h (by omega)) (fun x h e => hlu2 x h (by omega)) n _ (fun x => by simp only [Fin.isValue, Fin.val_ofNat] <;> omega)
  · exact strip x14 pool o0 o1 o2 l0 l1 l2 W b i r 1 128 (by omega) x5 x9 x11 x13 hw (fun x h d e => (hou1 x h d (by omega)).trans rfl) (fun x h e => hlu0 x h (by omega)) (fun x h e => hlu1 x h (by omega)) (fun x h e => hlu2 x h (by omega)) n _ (fun x => by simp only [Fin.isValue, Fin.val_ofNat] <;> omega)
  · exact strip x14 pool o0 o1 o2 l0 l1 l2 W b i r 2 128 (by omega) x7 x9 x11 x13 hw (fun x h d e => (hou2 x h d (by omega)).trans rfl) (fun x h e => hlu0 x h (by omega)) (fun x h e => hlu1 x h (by omega)) (fun x h e => hlu2 x h (by omega)) n _ (fun x => by simp only [Fin.isValue, Fin.val_ofNat] <;> omega)

end Cert.Proof.OutTile

end
-- ==== Proof.OutRef.lean ====
/- The output projection's reference, read element by element. -/
module

public import proofs.«01_k».proof.Proof.Gen.Reference3Ideal.Read
public import proofs.«01_k».proof.Proof.OutMath

@[expose] public section

set_option maxRecDepth 16384

noncomputable section

namespace Cert.Proof.OutRef

open Idealize.ShloMosaic Idealize.ShloMosaic.TcCoe Idealize.SL.Sem
open Cert.Reference3Ideal Cert.Reference3Ideal.Gen Cert.Reference3Ideal.Read Cert.Proof.OutMath

variable (x0 : (⟨S16x2048x1024, .f32⟩ : BufTy).Contents (Elt Ideal)) (x1 : (⟨S16x2048x256, .f32⟩ : BufTy).Contents (Elt Ideal))
  (x2 x3 x4 : (⟨S16x2048x4x64, .f32⟩ : BufTy).Contents (Elt Ideal)) (x5 x6 x7 : (⟨S16x2048x4, .f32⟩ : BufTy).Contents (Elt Ideal))
  (x8 : (⟨S1024x1024, .f32⟩ : BufTy).Contents (Elt Ideal)) (x9 : (⟨S1024, .f32⟩ : BufTy).Contents (Elt Ideal))
  (b : Fin 16) (i : Fin 2048)

/-- The stacked log-sums. -/
theorem lse_at (g : Fin 3) (h : Fin 4) : val_main_v3 (F := Ideal) x5 x6 x7 (ix4 b i g h)
    = pick g.val (x5 (ix3 b i h)) (x6 (ix3 b i h)) (x7 (ix3 b i h)) := by
  pointwise [val_main_v3, val_main_v2, val_main_v1, val_main_v0]
  rfl

/-- Their greatest. -/
theorem max_at (h : Fin 4) : val_main_v4 (F := Ideal) x5 x6 x7 (ix3 b i h)
    = max (max (x5 (ix3 b i h)) (x6 (ix3 b i h))) (x7 (ix3 b i h)) := by
  have e := fun g => lse_at x5 x6 x7 b i g h
  unfold val_main_v4
  generalize val_main_v3 (F := Ideal) x5 x6 x7 = z at e ⊢
  refine (Host.reduce_eq_fold_single (FloatOps.maximumf (F := Ideal) (φ := .f32)) z _ reducesTo_S16x2048x3x4_S16x2048x4_d2 (by decide) h_S_ _).trans ?_
  have hb : val_main_cst (F := Ideal) (Shape.Idx.first h_S_) = (⊥ : EReal) := by
    show Ideal.ofBits .f32 0xFF800000#32 = ⊥
    simp [Ideal.ofBits, Ideal.ieee]
  rw [hb]
  refine (congrArg (fun f => Finset.fold max (⊥ : EReal) f (Finset.univ : Finset (Fin 3)))
    (funext fun w => (congrArg z (?_ : _ = ix4 b i w h)).trans (e w))).trans ?_
  · exact funext fun e => Fin.ext (by match e with | ⟨0, _⟩ => rfl | ⟨1, _⟩ => rfl | ⟨2, _⟩ => rfl | ⟨3, _⟩ => rfl)
  · rw [show (Finset.univ : Finset (Fin 3)) = {0, 1, 2} by rfl]
    simp [pick, max_assoc]

/-- The exponentials. -/
theorem exp_at (g : Fin 3) (h : Fin 4) : val_main_v10 (F := Ideal) x5 x6 x7 (ix4 b i g h)
    = Ideal.exp (pick g.val (x5 (ix3 b i h)) (x6 (ix3 b i h)) (x7 (ix3 b i h))
        - max (max (x5 (ix3 b i h)) (x6 (ix3 b i h))) (x7 (ix3 b i h))) := by
  pointwise [val_main_v10, val_main_v9, val_main_v8, val_main_v7, val_main_v6, val_main_v5, val_main_cst_0]
  rw [lse_at, max_at]
  simp [Ideal.ofBits, Ideal.ieee]

/-- Their sum. -/
theorem sum_at (h : Fin 4) : val_main_v11 (F := Ideal) x5 x6 x7 (ix3 b i h)
    = Ideal.exp (x5 (ix3 b i h) - max (max (x5 (ix3 b i h)) (x6 (ix3 b i h))) (x7 (ix3 b i h)))
      + Ideal.exp (x6 (ix3 b i h) - max (max (x5 (ix3 b i h)) (x6 (ix3 b i h))) (x7 (ix3 b i h)))
      + Ideal.exp (x7 (ix3 b i h) - max (max (x5 (ix3 b i h)) (x6 (ix3 b i h))) (x7 (ix3 b i h))) := by
  rw [val_main_v11_apply]
  have h0 : val_main_cst_1 (F := Ideal) (Shape.Idx.first h_S_) = (0 : EReal) := by
    show Ideal.ofBits .f32 0#32 = 0
    simp [Ideal.ofBits, Ideal.ieee]
  have e : ∀ w, idx_main_v11 (ix3 b i h) w = ix4 b i w h := fun w =>
    funext fun e => Fin.ext (by match e with | ⟨0, _⟩ => rfl | ⟨1, _⟩ => rfl | ⟨2, _⟩ => rfl | ⟨3, _⟩ => rfl)
  rw [h0, zero_add, Fin.sum_univ_three]
  simp only [e, exp_at]
  rfl

/-- A weight. -/
theorem weight_at (g : Fin 3) (h : Fin 4) : val_main_v14 (F := Ideal) x5 x6 x7 (ix4 b i g h)
    = wt (x5 (ix3 b i h)) (x6 (ix3 b i h)) (x7 (ix3 b i h)) (pick g.val (x5 (ix3 b i h)) (x6 (ix3 b i h)) (x7 (ix3 b i h))) := by
  pointwise [val_main_v14, val_main_v13, val_main_v12]
  rw [exp_at, sum_at]
  rfl

/-- A weighted output. -/
theorem part_at (g : Fin 3) (h : Fin 4) (d : Fin 64) : val_main_v21 (F := Ideal) x2 x3 x4 x5 x6 x7 (ix5 b i g h d)
    = part x2 x3 x4 x5 x6 x7 b i g h d := by
  pointwise [val_main_v21, val_main_v20, val_main_v19, val_main_v18, val_main_v17, val_main_v16, val_main_v15]
  rw [weight_at]
  rfl

/-- A feature before the projection. -/
theorem mix_at (k : Fin 1024) : val_main_v23 (F := Ideal) x1 x2 x3 x4 x5 x6 x7 (ix3 b i k)
    = mix x1 x2 x3 x4 x5 x6 x7 b i k := by
  pointwise [val_main_v23, val_main_v22]
  simp only [part_at]
  rfl

/-- The stream after the projection. -/
theorem stream_at (n : Fin 1024) : val_main_v25 (F := Ideal) x0 x1 x2 x3 x4 x5 x6 x7 x8 (ix3 b i n)
    = stream x0 x1 x2 x3 x4 x5 x6 x7 x8 b i n := by
  pointwise [val_main_v25, val_main_v24]
  simp only [mix_at]
  rfl

/-- The normalised stream. -/
theorem normed_at (n : Fin 1024) : val_main_v39 (F := Ideal) x0 x1 x2 x3 x4 x5 x6 x7 x8 x9 (ix3 b i n)
    = normed (stream x0 x1 x2 x3 x4 x5 x6 x7 x8 b i) (x9 (ix1 n)) n := by
  pointwise [val_main_v39, val_main_v38, val_main_v37, val_main_v36, val_main_v35, val_main_v34, val_main_v33, val_main_v32, val_main_v31, val_main_v30, val_main_v29, val_main_v28, val_main_v27, val_main_cst_2, val_main_cst_3, val_main_cst_4]
  simp only [stream_at]
  rfl

/-- The first result, over flattened tokens. -/
theorem first_at (ρ : Fin 32768) (n : Fin 1024) : val_main_v26 (F := Ideal) x0 x1 x2 x3 x4 x5 x6 x7 x8 (ix2 ρ n)
    = stream x0 x1 x2 x3 x4 x5 x6 x7 x8 ⟨ρ.val / 2048, by omega⟩ ⟨ρ.val % 2048, by omega⟩ n := by
  rw [← stream_at]
  pointwise [val_main_v26]

/-- The second result, over flattened tokens. -/
theorem second_at (ρ : Fin 32768) (n : Fin 1024) : val_main_v41 (F := Ideal) x0 x1 x2 x3 x4 x5 x6 x7 x8 x9 (ix2 ρ n)
    = normed (stream x0 x1 x2 x3 x4 x5 x6 x7 x8 ⟨ρ.val / 2048, by omega⟩ ⟨ρ.val % 2048, by omega⟩) (x9 (ix1 n)) n := by
  rw [← normed_at]
  pointwise [val_main_v41, val_main_v40]

end Cert.Proof.OutRef

end
-- ==== Proof.OutProj.lean ====
/- The output projection: the row-blocked mixing, product, sum and normalisation are the reference's,
   element by element, over the extended reals. -/
module

public import proofs.«01_k».proof.Defs
public import proofs.«01_k».proof.Proof.OutTile
public import proofs.«01_k».proof.Proof.OutRef
public import Idealize.ShloMosaic.Lib.StableHlo.ReadAt

@[expose] public section

set_option maxRecDepth 16384

noncomputable section

namespace Cert.Proof.OutProj

open Idealize.ShloMosaic Idealize.ShloMosaic.TcCoe Idealize.SL.Sem
open Cert.Kernel3Ideal Cert.Kernel3Ideal.Gen Cert.Proof.OutMath

variable (m : (ℓ : Loc nD τ sig) → Buf (Elt Ideal) ℓ)

/-- Where each window's block lies at point `t`. -/
theorem idx (t : Fin cfg0.N) : win0_0.index t = ![(grid0.coords t 0).val, 0] ∧ win0_1.index t = ![(grid0.coords t 0).val, 0] ∧ win0_2.index t = ![(grid0.coords t 0).val, 0] ∧ win0_3.index t = ![(grid0.coords t 0).val, 0] ∧ win0_4.index t = ![(grid0.coords t 0).val, 0] ∧ win0_5.index t = ![(grid0.coords t 0).val, 0] ∧ win0_6.index t = ![(grid0.coords t 0).val, 0] ∧ win0_7.index t = ![(grid0.coords t 0).val, 0] ∧ win0_8.index t = ![(grid0.coords t 0).val, 0] ∧ win0_9.index t = ![(grid0.coords t 0).val, 0] ∧ win0_10.index t = ![(grid0.coords t 0).val, 0] ∧ win0_11.index t = ![(grid0.coords t 0).val, 0] ∧ win0_12.index t = ![(grid0.coords t 0).val, 0] ∧ win0_13.index t = ![(grid0.coords t 0).val, 0] ∧ win0_14.index t = ![0, 0] ∧ win0_15.index t = ![0, 0] ∧ win0_16.index t = ![(grid0.coords t 0).val, 0] ∧ win0_17.index t = ![(grid0.coords t 0).val, 0] := by
  revert t
  decide +kernel

/-- A block of the stream's rows, read. -/
theorem blk_x (c : Dev nD) (t : Fin cfg0.N) (r : Fin 512) (k : Fin 1024) (j : (⟨3, ![16, 2048, 1024]⟩ : Shape).Idx)
    (h0 : (j 0).val * 2048 + (j 1).val = (grid0.coords t 0).val * 512 + r.val) (h2 : (j 2).val = k.val) :
    iblk m c 0 t (ix2 r k) = m ((c : Thread nD τ).loc main_arg0) j := by
  idx_vars j
  blk_simp [iblk, (idx t).1]
  unfold V
  after_reads_at
  blk_ext [(idx t).1]

/-- A block of the pooled rows, read. -/
theorem blk_p (c : Dev nD) (t : Fin cfg0.N) (r : Fin 512) (k : Fin 256) (j : (⟨3, ![16, 2048, 256]⟩ : Shape).Idx)
    (h0 : (j 0).val * 2048 + (j 1).val = (grid0.coords t 0).val * 512 + r.val) (h2 : (j 2).val = k.val) :
    iblk m c 1 t (ix2 r k) = m ((c : Thread nD τ).loc main_arg1) j := by
  idx_vars j
  blk_simp [iblk, (idx t).2.1]
  unfold V
  after_reads_at
  blk_ext [(idx t).2.1]

set_option maxHeartbeats 2000000 in
/-- The lower and the upper lanes of the three groups' outputs, read. -/
theorem blk_o (c : Dev nD) (t : Fin cfg0.N) (r : Fin 512) (k : Fin 128) :
    (∀ j, (j 0).val * 2048 + (j 1).val = (grid0.coords t 0).val * 512 + r.val → (j 2).val * 64 + (j 3).val = k.val → iblk m c 2 t (ix2 r k) = m ((c : Thread nD τ).loc main_arg2) j)
    ∧ (∀ j, (j 0).val * 2048 + (j 1).val = (grid0.coords t 0).val * 512 + r.val → (j 2).val * 64 + (j 3).val = 128 + k.val → iblk m c 3 t (ix2 r k) = m ((c : Thread nD τ).loc main_arg2) j)
    ∧ (∀ j, (j 0).val * 2048 + (j 1).val = (grid0.coords t 0).val * 512 + r.val → (j 2).val * 64 + (j 3).val = k.val → iblk m c 4 t (ix2 r k) = m ((c : Thread nD τ).loc main_arg3) j)
    ∧ (∀ j, (j 0).val * 2048 + (j 1).val = (grid0.coords t 0).val * 512 + r.val → (j 2).val * 64 + (j 3).val = 128 + k.val → iblk m c 5 t (ix2 r k) = m ((c : Thread nD τ).loc main_arg3) j)
    ∧ (∀ j, (j 0).val * 2048 + (j 1).val = (grid0.coords t 0).val * 512 + r.val → (j 2).val * 64 + (j 3).val = k.val → iblk m c 6 t (ix2 r k) = m ((c : Thread nD τ).loc main_arg4) j)
    ∧ (∀ j, (j 0).val * 2048 + (j 1).val = (grid0.coords t 0).val * 512 + r.val → (j 2).val * 64 + (j 3).val = 128 + k.val → iblk m c 7 t (ix2 r k) = m ((c : Thread nD τ).loc main_arg4) j) := by
  obtain ⟨_, _, i0, i1, i2, i3, i4, i5, _, _, _, _, _, _, _, _, _, _⟩ := idx t
  refine ⟨?_, ?_, ?_, ?_, ?_, ?_⟩ <;> intro j h0 h2 <;> idx_vars j <;> blk_simp [iblk, i0, i1, i2, i3, i4, i5] <;> unfold V <;> after_reads_at <;>
    blk_ext [i0, i1, i2, i3, i4, i5]

set_option maxHeartbeats 2000000 in
/-- The lower and the upper lanes of the three groups' repeated log-sums, read. -/
theorem blk_l (c : Dev nD) (t : Fin cfg0.N) (r : Fin 512) (k : Fin 128) :
    (∀ j, (j 0).val * 2048 + (j 1).val = (grid0.coords t 0).val * 512 + r.val → (j 2).val = (k.val) / 64 → iblk m c 8 t (ix2 r k) = m ((c : Thread nD τ).loc main_arg5) j)
    ∧ (∀ j, (j 0).val * 2048 + (j 1).val = (grid0.coords t 0).val * 512 + r.val → (j 2).val = (128 + k.val) / 64 → iblk m c 9 t (ix2 r k) = m ((c : Thread nD τ).loc main_arg5) j)
    ∧ (∀ j, (j 0).val * 2048 + (j 1).val = (grid0.coords t 0).val * 512 + r.val → (j 2).val = (k.val) / 64 → iblk m c 10 t (ix2 r k) = m ((c : Thread nD τ).loc main_arg6) j)
    ∧ (∀ j, (j 0).val * 2048 + (j 1).val = (grid0.coords t 0).val * 512 + r.val → (j 2).val = (128 + k.val) / 64 → iblk m c 11 t (ix2 r k) = m ((c : Thread nD τ).loc main_arg6) j)
    ∧ (∀ j, (j 0).val * 2048 + (j 1).val = (grid0.coords t 0).val * 512 + r.val → (j 2).val = (k.val) / 64 → iblk m c 12 t (ix2 r k) = m ((c : Thread nD τ).loc main_arg7) j)
    ∧ (∀ j, (j 0).val * 2048 + (j 1).val = (grid0.coords t 0).val * 512 + r.val → (j 2).val = (128 + k.val) / 64 → iblk m c 13 t (ix2 r k) = m ((c : Thread nD τ).loc main_arg7) j) := by
  obtain ⟨_, _, _, _, _, _, _, _, i0, i1, i2, i3, i4, i5, _, _, _, _⟩ := idx t
  refine ⟨?_, ?_, ?_, ?_, ?_, ?_⟩ <;> intro j h0 h2 <;> idx_vars j <;> blk_simp [iblk, i0, i1, i2, i3, i4, i5] <;> unfold V <;> after_reads_at <;>
    blk_ext [i0, i1, i2, i3, i4, i5]

/-- The weights' one block, read. -/
theorem blk_w (c : Dev nD) (t : Fin cfg0.N) (k : Fin 1024) (n : Fin 1024) :
    iblk m c 14 t (ix2 k n) = m ((c : Thread nD τ).loc main_arg8) (ix2 k n) := by
  blk_simp [iblk, (idx t).2.2.2.2.2.2.2.2.2.2.2.2.2.2.1]
  unfold V
  after_reads_at
  blk_ext [(idx t).2.2.2.2.2.2.2.2.2.2.2.2.2.2.1]

/-- The gains' one block, read. -/
theorem blk_g (c : Dev nD) (t : Fin cfg0.N) (k : Fin 1024) :
    iblk m c 15 t (ix2 0 k) = m ((c : Thread nD τ).loc main_arg9) (ix1 k) := by
  blk_simp [iblk, (idx t).2.2.2.2.2.2.2.2.2.2.2.2.2.2.2.1]
  unfold V
  after_reads_at
  blk_ext [(idx t).2.2.2.2.2.2.2.2.2.2.2.2.2.2.2.1]

/-- Row `r` of point `t`'s first block is the stream of the token it stands for. -/
theorem tile (c : Dev nD) (t : Fin cfg0.N) (r : Fin 512) (b : Fin 16) (i : Fin 2048)
    (h0 : b.val * 2048 + i.val = (grid0.coords t 0).val * 512 + r.val) (n : Fin 1024) :
    out0_16 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (ix2 r n)
      = stream (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) b i n :=
  OutTile.stream_out (iblk m c 0 t) (iblk m c 1 t) (iblk m c 2 t) (iblk m c 3 t) (iblk m c 4 t) (iblk m c 5 t) (iblk m c 6 t) (iblk m c 7 t)
    (iblk m c 8 t) (iblk m c 9 t) (iblk m c 10 t) (iblk m c 11 t) (iblk m c 12 t) (iblk m c 13 t) (iblk m c 14 t) (iblk m c 15 t)
    (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) b i r
    (fun n => blk_x m c t r n (ix3 b i n) h0 rfl) (fun x => blk_p m c t r x (ix3 b i x) h0 rfl) (fun k n => blk_w m c t k n)
    (fun x h d e => (blk_o m c t r x).1 (ix4 b i h d) h0 e) (fun x h e => (blk_l m c t r x).1 (ix3 b i h) h0 e)
    (fun x h d e => (blk_o m c t r x).2.1 (ix4 b i h d) h0 e) (fun x h e => (blk_l m c t r x).2.1 (ix3 b i h) h0 e)
    (fun x h d e => (blk_o m c t r x).2.2.1 (ix4 b i h d) h0 e) (fun x h e => (blk_l m c t r x).2.2.1 (ix3 b i h) h0 e)
    (fun x h d e => (blk_o m c t r x).2.2.2.1 (ix4 b i h d) h0 e) (fun x h e => (blk_l m c t r x).2.2.2.1 (ix3 b i h) h0 e)
    (fun x h d e => (blk_o m c t r x).2.2.2.2.1 (ix4 b i h d) h0 e) (fun x h e => (blk_l m c t r x).2.2.2.2.1 (ix3 b i h) h0 e)
    (fun x h d e => (blk_o m c t r x).2.2.2.2.2 (ix4 b i h d) h0 e) (fun x h e => (blk_l m c t r x).2.2.2.2.2 (ix3 b i h) h0 e) n

/-- The stream's array after the run is the reference's first result. -/
theorem final_stream (c : Dev nD) : (dats m 0 c).arrAt 16 cfg0.N =
    Cert.Reference3Ideal.Read.val_main_v26 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) := by
  refine (dats m 0 c).arrAt_eq_of_covers 16 _ (by decide +kernel) fun t hf y => ?_
  blk_simp
  rw [after0_16]
  have e0 : (((View.whole main_v28_0).slice (win0_16.rect t)).emb y 0 : ℕ) = (grid0.coords t 0).val * 512 + (y 0).val := by
    blk_simp [(idx t).2.2.2.2.2.2.2.2.2.2.2.2.2.2.2.2.1]
  have e1 : ((View.whole main_v28_0).slice (win0_16.rect t)).emb y 1 = y 1 := by
    apply Fin.ext; blk_simp [(idx t).2.2.2.2.2.2.2.2.2.2.2.2.2.2.2.2.1]
  generalize ((View.whole main_v28_0).slice (win0_16.rect t)).emb y = z at e0 e1 ⊢
  idx_vars z
  idx_vars y
  rw [OutRef.first_at, e1]
  exact tile m c t y0 _ _ (by simp only; omega) y1

/-- The normalised array after the run is the reference's second result. -/
theorem final_normed (c : Dev nD) : (dats m 0 c).arrAt 17 cfg0.N =
    Cert.Reference3Ideal.Read.val_main_v41 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) := by
  refine (dats m 0 c).arrAt_eq_of_covers 17 _ (by decide +kernel) fun t hf y => ?_
  blk_simp
  rw [after0_17]
  have e0 : (((View.whole main_v28_1).slice (win0_17.rect t)).emb y 0 : ℕ) = (grid0.coords t 0).val * 512 + (y 0).val := by
    blk_simp [(idx t).2.2.2.2.2.2.2.2.2.2.2.2.2.2.2.2.2]
  have e1 : ((View.whole main_v28_1).slice (win0_17.rect t)).emb y 1 = y 1 := by
    apply Fin.ext; blk_simp [(idx t).2.2.2.2.2.2.2.2.2.2.2.2.2.2.2.2.2]
  generalize ((View.whole main_v28_1).slice (win0_17.rect t)).emb y = z at e0 e1 ⊢
  idx_vars z
  idx_vars y
  rw [OutRef.second_at, e1, ← blk_g m c t y1]
  refine (OutTile.second_out (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) y0 y1).trans (congrArg (fun f => normed f _ y1) (funext fun k => ?_))
  exact tile m c t y0 _ _ (by simp only; omega) k

/-- The reference leaves its argument arrays as they were, and no counter raised: it declares none. -/
theorem frame_reference : Cert.quiescent_Reference3Ideal := fun m g _ =>
  (θ_run Cert.Reference3Ideal.defs _ _).mono
    (fun r h => ⟨fun c => (h c).2.2, sem_eq_zero_of_no_sems (by decide) r.2⟩)
    (Cert.Reference3Ideal.Value.run (F := Ideal) m g)

/-- From equal arguments the projection and its reference leave equal results. -/
theorem algebraic : Cert.algebraic_Kernel3Ideal_Reference3Ideal := by
  pair_intro
  · run_from Cert.Kernel3Ideal.Value.run_blocks m g
  · run_from Cert.Reference3Ideal.Value.run m' g'
    · exact (Cert.Reference3Ideal.Read.val_main_v26_eq m' c).trans (by simp only [hagree c]; exact (final_stream m c).symm)
    · exact (Cert.Reference3Ideal.Read.val_main_v41_eq m' c).trans (by simp only [hagree c]; exact (final_normed m c).symm)

end Cert.Proof.OutProj

end
-- ==== Proof.AttnTrip.lean ====
/- One trip of the attention kernel's loop over query blocks, as functions of the whole query, key and
   value planes, and what the loop leaves in its two result planes. -/
module

public import proofs.«01_k».proof.Defs
public import proofs.«01_k».proof.Proof.Gen.KernelIdeal.Loops
public import Idealize.ShloMosaic.Lib.Pipeline.ValueKit

@[expose] public section

set_option maxRecDepth 16384

noncomputable section

namespace Cert.Proof.Attn

open Idealize.ShloMosaic Idealize.ShloMosaic.TcCoe Idealize.SL.Sem
open Cert.KernelIdeal Cert.KernelIdeal.Gen

variable {F : FTy → Type} [FloatOps F] [Named F]

/-- The rows a trip's queries come from and its results go to. -/
abbrev rowsQ (t : Fin k0_t1_loop.trips) : Rect S1x2048x256 := Rect.unit (k0_off1 t) S1x128x256.size (k0_off1_inb t)

/-- The rows a trip's keys and values come from. -/
abbrev rowsK (t : Fin k0_t1_loop.trips) : Rect S1x2048x256 := Rect.unit (k0_off2 t) S1x256x256.size (k0_off2_inb t)

/-- The first query row of a trip, as the kernel's word. -/
abbrev wordQ (t : Fin k0_t1_loop.trips) : BitVec 32 := trip_k0_t1.sl.v166 t

/-- The first key row of a trip, as the kernel's word. -/
abbrev wordK (t : Fin k0_t1_loop.trips) : BitVec 32 := trip_k0_t1.sl.v170 t

section
variable (v60 : IVec S128x256 32) (v79 : IVec S512x256 32) (v117 : FVec F S512x1 .f32)
  (qs ks vs : Vec F S1x2048x256 .bf16) (t : Fin k0_t1_loop.trips)

/-- The greatest score of each row of a trip. -/
def tripMax : FVec F S512x1 .f32 :=
  k0_pay5 v60 v79 v117 (wordQ t) (wordK t) (k0_pay2 (View.ld qs (rowsQ t))) (View.ld ks (rowsK t))

/-- The exponentials of a trip's scores less their row's greatest. -/
def tripExp : FVec F S512x256 .f32 :=
  k0_pay6 v60 v79 v117 (wordQ t) (wordK t) (k0_pay2 (View.ld qs (rowsQ t))) (View.ld ks (rowsK t))

/-- A trip's block of attention outputs. -/
def tripOut : Vec F S1x128x256 .f32 :=
  k0_pay25 v60 (k0_pay3 (View.ld vs (rowsK t))) (tripExp v60 v79 v117 qs ks t)

/-- A trip's block of log-sums of exponentials. -/
def tripLse : Vec F S1x128x256 .f32 :=
  k0_pay26 v60 (tripMax v60 v79 v117 qs ks t) (tripExp v60 v79 v117 qs ks t)
end

/-- The plane whose blocks of 128 rows are the trips' blocks. -/
def planeOf (T : Fin k0_t1_loop.trips → Vec F S1x128x256 .f32) : Vec F S1x2048x256 .f32 := fun j =>
  T ⟨(j 1).val / 128, by have h : (j 1).val < 2048 := (j 1).isLt; have : k0_t1_loop.trips = 16 := by decide
                         omega⟩
    (ix3 0 ⟨(j 1).val % 128, Nat.mod_lt _ (by decide)⟩ (j 2))

/-- A trip's rows begin at 128 times its number. -/
theorem off1 (t : Fin k0_t1_loop.trips) : k0_off1 t = ![0, 128 * t.val, 0] := by
  revert t; decide +kernel

/-- The plane, at a row of a trip's block, is that trip's block. -/
theorem planeOf_emb (T : Fin k0_t1_loop.trips → Vec F S1x128x256 .f32) (t : Fin k0_t1_loop.trips)
    (x : (rowsQ t).shape.Idx) : T t x = planeOf T ((rowsQ t).emb x) := by
  have hx0 : (x 0).val < 1 := (x 0).isLt
  have hx1 : (x 1).val < 128 := (x 1).isLt
  have h1 : (((rowsQ t).emb x) 1).val = 128 * t.val + (x 1).val := by
    show k0_off1 t 1 + 1 * (x 1).val = _
    rw [off1]; simp
  have h2 : (((rowsQ t).emb x) 2).val = (x 2).val := by
    show k0_off1 t 2 + 1 * (x 2).val = _
    rw [off1]; simp
  unfold planeOf
  congr 1
  · apply Fin.ext; show t.val = _ / 128; rw [h1]; omega
  · funext a
    fin_cases a
    · apply Fin.ext; show (x 0).val = 0; omega
    · apply Fin.ext; show (x 1).val = _ % 128; rw [h1]; omega
    · apply Fin.ext; exact h2.symm

/-- Every row of the plane is in some trip's block. -/
theorem rows_cover (y : S1x2048x256.Idx) : ∃ t : Fin k0_t1_loop.trips, y ∈ (rowsQ t).set := by
  have h1 : (y 1).val < 2048 := (y 1).isLt
  have h0 : (y 0).val < 1 := (y 0).isLt
  have h2 : (y 2).val < 256 := (y 2).isLt
  have ht : k0_t1_loop.trips = 16 := by decide
  refine ⟨⟨(y 1).val / 128, by omega⟩, ?_⟩
  refine (LoadRect.mem_set _).mpr fun a => ?_
  show ∃ j < S1x128x256.size a, (y a).val = k0_off1 _ a + 1 * j
  rw [off1]
  fin_cases a
  · exact ⟨0, by decide, by show (y 0).val = 0 + 1 * 0; omega⟩
  · exact ⟨(y 1).val % 128, Nat.mod_lt _ (by decide), by show (y 1).val = 128 * ((y 1).val / 128) + 1 * ((y 1).val % 128); omega⟩
  · exact ⟨(y 2).val, h2, by show (y 2).val = 0 + 1 * (y 2).val; omega⟩

/-- The one piece a trip writes into the output plane. -/
theorem trip_out  (𝒱 : Variants) (c : Dev nD) (bd : Option 𝒱.V) (i : grid0.Coords) (arg1 : Memref sig .tc .vmem S1x2048x128 .f32) (harg1 : arg1.IsWhole) (arg2 : Memref sig .tc .vmem S1x2048x128 .f32) (harg2 : arg2.IsWhole) (arg3 : Memref sig .tc .vmem S1x2048x128 .f32) (harg3 : arg3.IsWhole) (arg4 : Memref sig .tc .vmem S1x2048x128 .f32) (harg4 : arg4.IsWhole) (arg5 : Memref sig .tc .vmem S1x2048x128 .f32) (harg5 : arg5.IsWhole) (arg6 : Memref sig .tc .vmem S1x2048x128 .f32) (harg6 : arg6.IsWhole) (arg7 : Memref sig .tc .vmem S1x2048x128 .f32) (harg7 : arg7.IsWhole) (arg8 : Memref sig .tc .vmem S1x2048x128 .f32) (harg8 : arg8.IsWhole) (arg9 : Memref sig .tc .vmem S1x2048x128 .f32) (harg9 : arg9.IsWhole) (arg10 : Memref sig .tc .vmem S1x2048x128 .f32) (harg10 : arg10.IsWhole) (arg11 : Memref sig .tc .vmem S1x2048x256 .bf16) (harg11 : arg11.IsWhole) (arg12 : Memref sig .tc .vmem S1x2048x256 .bf16) (harg12 : arg12.IsWhole) (arg13 : Memref sig .tc .vmem S1x2048x256 .bf16) (harg13 : arg13.IsWhole) (arg14 : Memref sig .tc .vmem S1x2048x256 .f32) (harg14 : arg14.IsWhole) (arg15 : Memref sig .tc .vmem S1x2048x256 .f32) (harg15 : arg15.IsWhole) (v60 : IVec S128x256 32) (v79 : IVec S512x256 32) (v104 : IVec S512x1 32) (v109 : FVec F S512x1 .f32) (v111 : IVec S512x1 1) (cst_52 : F .f32) (X_arg11 : BufTy.Contents (Elt F) arg11.view.ty) (X_arg12 : BufTy.Contents (Elt F) arg12.view.ty) (X_arg13 : BufTy.Contents (Elt F) arg13.view.ty) (k : Fin k0_t1_loop.trips) :
    (trip_k0_t1 (F := F) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 v60 v79 v104 v109 v111 cst_52 X_arg11 X_arg12 X_arg13 k).1
      = [⟨rowsQ k, tripOut v60 v79 (k0_pay20 v104 v109 v111 cst_52) (arg11.view.read (Elt F) X_arg11) (arg12.view.read (Elt F) X_arg12) (arg13.view.read (Elt F) X_arg13) k⟩] := by
  unfold trip_k0_t1 tripOut tripExp
  simp only [← View.readAt_eq_ld]
  rfl

/-- The one piece a trip writes into the plane of log-sums. -/
theorem trip_lse  (𝒱 : Variants) (c : Dev nD) (bd : Option 𝒱.V) (i : grid0.Coords) (arg1 : Memref sig .tc .vmem S1x2048x128 .f32) (harg1 : arg1.IsWhole) (arg2 : Memref sig .tc .vmem S1x2048x128 .f32) (harg2 : arg2.IsWhole) (arg3 : Memref sig .tc .vmem S1x2048x128 .f32) (harg3 : arg3.IsWhole) (arg4 : Memref sig .tc .vmem S1x2048x128 .f32) (harg4 : arg4.IsWhole) (arg5 : Memref sig .tc .vmem S1x2048x128 .f32) (harg5 : arg5.IsWhole) (arg6 : Memref sig .tc .vmem S1x2048x128 .f32) (harg6 : arg6.IsWhole) (arg7 : Memref sig .tc .vmem S1x2048x128 .f32) (harg7 : arg7.IsWhole) (arg8 : Memref sig .tc .vmem S1x2048x128 .f32) (harg8 : arg8.IsWhole) (arg9 : Memref sig .tc .vmem S1x2048x128 .f32) (harg9 : arg9.IsWhole) (arg10 : Memref sig .tc .vmem S1x2048x128 .f32) (harg10 : arg10.IsWhole) (arg11 : Memref sig .tc .vmem S1x2048x256 .bf16) (harg11 : arg11.IsWhole) (arg12 : Memref sig .tc .vmem S1x2048x256 .bf16) (harg12 : arg12.IsWhole) (arg13 : Memref sig .tc .vmem S1x2048x256 .bf16) (harg13 : arg13.IsWhole) (arg14 : Memref sig .tc .vmem S1x2048x256 .f32) (harg14 : arg14.IsWhole) (arg15 : Memref sig .tc .vmem S1x2048x256 .f32) (harg15 : arg15.IsWhole) (v60 : IVec S128x256 32) (v79 : IVec S512x256 32) (v104 : IVec S512x1 32) (v109 : FVec F S512x1 .f32) (v111 : IVec S512x1 1) (cst_52 : F .f32) (X_arg11 : BufTy.Contents (Elt F) arg11.view.ty) (X_arg12 : BufTy.Contents (Elt F) arg12.view.ty) (X_arg13 : BufTy.Contents (Elt F) arg13.view.ty) (k : Fin k0_t1_loop.trips) :
    (trip_k0_t1 (F := F) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 v60 v79 v104 v109 v111 cst_52 X_arg11 X_arg12 X_arg13 k).2.1
      = [⟨rowsQ k, tripLse v60 v79 (k0_pay20 v104 v109 v111 cst_52) (arg11.view.read (Elt F) X_arg11) (arg12.view.read (Elt F) X_arg12) k⟩] := by
  unfold trip_k0_t1 tripLse tripExp tripMax
  simp only [← View.readAt_eq_ld]
  rfl

/-- The pieces of the trips before `k`: one per trip, in the output plane and in the plane of log-sums. -/
theorem pieces  (𝒱 : Variants) (c : Dev nD) (bd : Option 𝒱.V) (i : grid0.Coords) (arg1 : Memref sig .tc .vmem S1x2048x128 .f32) (harg1 : arg1.IsWhole) (arg2 : Memref sig .tc .vmem S1x2048x128 .f32) (harg2 : arg2.IsWhole) (arg3 : Memref sig .tc .vmem S1x2048x128 .f32) (harg3 : arg3.IsWhole) (arg4 : Memref sig .tc .vmem S1x2048x128 .f32) (harg4 : arg4.IsWhole) (arg5 : Memref sig .tc .vmem S1x2048x128 .f32) (harg5 : arg5.IsWhole) (arg6 : Memref sig .tc .vmem S1x2048x128 .f32) (harg6 : arg6.IsWhole) (arg7 : Memref sig .tc .vmem S1x2048x128 .f32) (harg7 : arg7.IsWhole) (arg8 : Memref sig .tc .vmem S1x2048x128 .f32) (harg8 : arg8.IsWhole) (arg9 : Memref sig .tc .vmem S1x2048x128 .f32) (harg9 : arg9.IsWhole) (arg10 : Memref sig .tc .vmem S1x2048x128 .f32) (harg10 : arg10.IsWhole) (arg11 : Memref sig .tc .vmem S1x2048x256 .bf16) (harg11 : arg11.IsWhole) (arg12 : Memref sig .tc .vmem S1x2048x256 .bf16) (harg12 : arg12.IsWhole) (arg13 : Memref sig .tc .vmem S1x2048x256 .bf16) (harg13 : arg13.IsWhole) (arg14 : Memref sig .tc .vmem S1x2048x256 .f32) (harg14 : arg14.IsWhole) (arg15 : Memref sig .tc .vmem S1x2048x256 .f32) (harg15 : arg15.IsWhole) (v60 : IVec S128x256 32) (v79 : IVec S512x256 32) (v104 : IVec S512x1 32) (v109 : FVec F S512x1 .f32) (v111 : IVec S512x1 1) (cst_52 : F .f32) (X_arg11 : BufTy.Contents (Elt F) arg11.view.ty) (X_arg12 : BufTy.Contents (Elt F) arg12.view.ty) (X_arg13 : BufTy.Contents (Elt F) arg13.view.ty) (k : ℕ) (hk : k ≤ k0_t1_loop.trips) :
    (∀ p, p ∈ (pb_k0_t1 (F := F) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 v60 v79 v104 v109 v111 cst_52 X_arg11 X_arg12 X_arg13 k).1 ↔ ∃ t : Fin k0_t1_loop.trips, t.val < k ∧
      p = ⟨rowsQ t, tripOut v60 v79 (k0_pay20 v104 v109 v111 cst_52) (arg11.view.read (Elt F) X_arg11) (arg12.view.read (Elt F) X_arg12) (arg13.view.read (Elt F) X_arg13) t⟩)
    ∧ (∀ p, p ∈ (pb_k0_t1 (F := F) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 v60 v79 v104 v109 v111 cst_52 X_arg11 X_arg12 X_arg13 k).2 ↔ ∃ t : Fin k0_t1_loop.trips, t.val < k ∧
      p = ⟨rowsQ t, tripLse v60 v79 (k0_pay20 v104 v109 v111 cst_52) (arg11.view.read (Elt F) X_arg11) (arg12.view.read (Elt F) X_arg12) t⟩) := by
  induction k with
  | zero =>
    rw [pb_k0_t1]
    exact ⟨fun p => by simp, fun p => by simp⟩
  | succ k ih =>
    have ih := ih (by omega)
    have e := pb_k0_t1_succ (F := F) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 v60 v79 v104 v109 v111 cst_52 X_arg11 X_arg12 X_arg13 ⟨k, by omega⟩
    simp only at e
    rw [e]
    simp only [trip_out, trip_lse]
    refine ⟨fun p => ?_, fun p => ?_⟩
    · rw [List.mem_append, List.mem_singleton, ih.1]
      constructor
      · rintro (h | ⟨t, ht, h⟩)
        · exact ⟨⟨k, by omega⟩, by simp, h⟩
        · exact ⟨t, by omega, h⟩
      · rintro ⟨t, ht, h⟩
        rcases Nat.lt_succ_iff_lt_or_eq.mp ht with h' | h'
        · exact Or.inr ⟨t, h', h⟩
        · left; subst h'; exact h
    · rw [List.mem_append, List.mem_singleton, ih.2]
      constructor
      · rintro (h | ⟨t, ht, h⟩)
        · exact ⟨⟨k, by omega⟩, by simp, h⟩
        · exact ⟨t, by omega, h⟩
      · rintro ⟨t, ht, h⟩
        rcases Nat.lt_succ_iff_lt_or_eq.mp ht with h' | h'
        · exact Or.inr ⟨t, h', h⟩
        · left; subst h'; exact h

/-- What the loop leaves in the output plane, whatever it held. -/
theorem loop_out  (𝒱 : Variants) (c : Dev nD) (bd : Option 𝒱.V) (i : grid0.Coords) (arg1 : Memref sig .tc .vmem S1x2048x128 .f32) (harg1 : arg1.IsWhole) (arg2 : Memref sig .tc .vmem S1x2048x128 .f32) (harg2 : arg2.IsWhole) (arg3 : Memref sig .tc .vmem S1x2048x128 .f32) (harg3 : arg3.IsWhole) (arg4 : Memref sig .tc .vmem S1x2048x128 .f32) (harg4 : arg4.IsWhole) (arg5 : Memref sig .tc .vmem S1x2048x128 .f32) (harg5 : arg5.IsWhole) (arg6 : Memref sig .tc .vmem S1x2048x128 .f32) (harg6 : arg6.IsWhole) (arg7 : Memref sig .tc .vmem S1x2048x128 .f32) (harg7 : arg7.IsWhole) (arg8 : Memref sig .tc .vmem S1x2048x128 .f32) (harg8 : arg8.IsWhole) (arg9 : Memref sig .tc .vmem S1x2048x128 .f32) (harg9 : arg9.IsWhole) (arg10 : Memref sig .tc .vmem S1x2048x128 .f32) (harg10 : arg10.IsWhole) (arg11 : Memref sig .tc .vmem S1x2048x256 .bf16) (harg11 : arg11.IsWhole) (arg12 : Memref sig .tc .vmem S1x2048x256 .bf16) (harg12 : arg12.IsWhole) (arg13 : Memref sig .tc .vmem S1x2048x256 .bf16) (harg13 : arg13.IsWhole) (arg14 : Memref sig .tc .vmem S1x2048x256 .f32) (harg14 : arg14.IsWhole) (arg15 : Memref sig .tc .vmem S1x2048x256 .f32) (harg15 : arg15.IsWhole) (v60 : IVec S128x256 32) (v79 : IVec S512x256 32) (v104 : IVec S512x1 32) (v109 : FVec F S512x1 .f32) (v111 : IVec S512x1 1) (cst_52 : F .f32) (X_arg11 : BufTy.Contents (Elt F) arg11.view.ty) (X_arg12 : BufTy.Contents (Elt F) arg12.view.ty) (X_arg13 : BufTy.Contents (Elt F) arg13.view.ty) (G : BufTy.Contents (Elt F) arg14.view.ty) :
    arg14.view.read (Elt F) (arg14.view.writes (Elt F) G (pb_k0_t1 (F := F) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 v60 v79 v104 v109 v111 cst_52 X_arg11 X_arg12 X_arg13 k0_t1_loop.trips).1)
      = planeOf (tripOut v60 v79 (k0_pay20 v104 v109 v111 cst_52) (arg11.view.read (Elt F) X_arg11) (arg12.view.read (Elt F) X_arg12) (arg13.view.read (Elt F) X_arg13)) := by
  funext y
  have hp := (pieces (F := F) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 v60 v79 v104 v109 v111 cst_52 X_arg11 X_arg12 X_arg13 k0_t1_loop.trips le_rfl).1
  refine View.read_writes_apply_of_pieces _ _ _ _ (fun p h x => ?_) y ?_
  · obtain ⟨t, -, rfl⟩ := (hp p).mp h
    exact planeOf_emb (tripOut v60 v79 (k0_pay20 v104 v109 v111 cst_52) (arg11.view.read (Elt F) X_arg11) (arg12.view.read (Elt F) X_arg12) (arg13.view.read (Elt F) X_arg13)) t x
  · obtain ⟨t, ht⟩ := rows_cover y
    exact ⟨_, (hp _).mpr ⟨t, t.isLt, rfl⟩, ht⟩

/-- What the loop leaves in the plane of log-sums, whatever it held. -/
theorem loop_lse  (𝒱 : Variants) (c : Dev nD) (bd : Option 𝒱.V) (i : grid0.Coords) (arg1 : Memref sig .tc .vmem S1x2048x128 .f32) (harg1 : arg1.IsWhole) (arg2 : Memref sig .tc .vmem S1x2048x128 .f32) (harg2 : arg2.IsWhole) (arg3 : Memref sig .tc .vmem S1x2048x128 .f32) (harg3 : arg3.IsWhole) (arg4 : Memref sig .tc .vmem S1x2048x128 .f32) (harg4 : arg4.IsWhole) (arg5 : Memref sig .tc .vmem S1x2048x128 .f32) (harg5 : arg5.IsWhole) (arg6 : Memref sig .tc .vmem S1x2048x128 .f32) (harg6 : arg6.IsWhole) (arg7 : Memref sig .tc .vmem S1x2048x128 .f32) (harg7 : arg7.IsWhole) (arg8 : Memref sig .tc .vmem S1x2048x128 .f32) (harg8 : arg8.IsWhole) (arg9 : Memref sig .tc .vmem S1x2048x128 .f32) (harg9 : arg9.IsWhole) (arg10 : Memref sig .tc .vmem S1x2048x128 .f32) (harg10 : arg10.IsWhole) (arg11 : Memref sig .tc .vmem S1x2048x256 .bf16) (harg11 : arg11.IsWhole) (arg12 : Memref sig .tc .vmem S1x2048x256 .bf16) (harg12 : arg12.IsWhole) (arg13 : Memref sig .tc .vmem S1x2048x256 .bf16) (harg13 : arg13.IsWhole) (arg14 : Memref sig .tc .vmem S1x2048x256 .f32) (harg14 : arg14.IsWhole) (arg15 : Memref sig .tc .vmem S1x2048x256 .f32) (harg15 : arg15.IsWhole) (v60 : IVec S128x256 32) (v79 : IVec S512x256 32) (v104 : IVec S512x1 32) (v109 : FVec F S512x1 .f32) (v111 : IVec S512x1 1) (cst_52 : F .f32) (X_arg11 : BufTy.Contents (Elt F) arg11.view.ty) (X_arg12 : BufTy.Contents (Elt F) arg12.view.ty) (X_arg13 : BufTy.Contents (Elt F) arg13.view.ty) (G : BufTy.Contents (Elt F) arg15.view.ty) :
    arg15.view.read (Elt F) (arg15.view.writes (Elt F) G (pb_k0_t1 (F := F) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 v60 v79 v104 v109 v111 cst_52 X_arg11 X_arg12 X_arg13 k0_t1_loop.trips).2)
      = planeOf (tripLse v60 v79 (k0_pay20 v104 v109 v111 cst_52) (arg11.view.read (Elt F) X_arg11) (arg12.view.read (Elt F) X_arg12)) := by
  funext y
  have hp := (pieces (F := F) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 v60 v79 v104 v109 v111 cst_52 X_arg11 X_arg12 X_arg13 k0_t1_loop.trips le_rfl).2
  refine View.read_writes_apply_of_pieces _ _ _ _ (fun p h x => ?_) y ?_
  · obtain ⟨t, -, rfl⟩ := (hp p).mp h
    exact planeOf_emb (tripLse v60 v79 (k0_pay20 v104 v109 v111 cst_52) (arg11.view.read (Elt F) X_arg11) (arg12.view.read (Elt F) X_arg12)) t x
  · obtain ⟨t, ht⟩ := rows_cover y
    exact ⟨_, (hp _).mpr ⟨t, t.isLt, rfl⟩, ht⟩

end Cert.Proof.Attn

end
-- ==== Proof.AttnRun.lean ====
/- The attention kernel's run: what the body leaves in its four output windows, from the six blocks it is
   handed, and the launch with every output array named. -/
module

public import proofs.«01_k».proof.Proof.AttnTrip
public import proofs.«01_k».proof.Proof.Gen.KernelIdeal.Frame

@[expose] public section

set_option maxRecDepth 16384

noncomputable section

namespace Cert.Proof.Attn

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

/-- A block's whole rectangle, and the two halves of the lanes of a plane. -/
abbrev rAll : Rect S1x2048x128 := Rect.unit ![0, 0, 0] S1x2048x128.size inb_S1x2048x128_S1x2048x128_0_0_0
abbrev rLo : Rect S1x2048x256 := Rect.unit ![0, 0, 0] S1x2048x128.size inb_S1x2048x256_S1x2048x128_0_0_0
abbrev rHi : Rect S1x2048x256 := Rect.unit ![0, 0, 128] S1x2048x128.size inb_S1x2048x256_S1x2048x128_0_0_128

/-- The query plane: the two blocks of queries side by side. -/
def planeQ (x0 x1 : Vec F S1x2048x128 .f32) : Vec F S1x2048x256 .bf16 :=
  View.canon [⟨rHi, k0_pay8 (View.ld x1 rAll)⟩, ⟨rLo, k0_pay7 (View.ld x0 rAll)⟩]

/-- The key plane. -/
def planeK (x2 x3 : Vec F S1x2048x128 .f32) : Vec F S1x2048x256 .bf16 :=
  View.canon [⟨rHi, k0_pay10 (View.ld x3 rAll)⟩, ⟨rLo, k0_pay9 (View.ld x2 rAll)⟩]

/-- The value plane. -/
def planeV (x4 x5 : Vec F S1x2048x128 .f32) : Vec F S1x2048x256 .bf16 :=
  View.canon [⟨rHi, k0_pay13 (View.ld x5 rAll)⟩, ⟨rLo, k0_pay12 (k0_pay11 (View.ld x4 rAll))⟩]

/-- Each row's position in its block of 128, taken from the key's column. -/
def relCols : IVec S512x256 32 :=
  k0_pay16 (iota .tc S512x256 32 [1] iota_S512x256_d1_w32) (Scalar.select (Scalar.cmpi .eq 128#32 0#32) 1#32 128#32) k0_pay15

/-- Each row's slope. -/
def rowSlope : FVec F S512x1 .f32 := k0_pay20 k0_pay17 k0_pay18 k0_pay19 (Scalar.ofBits .f32 0x3E800000#32)

/-- The plane of attention outputs. -/
def outPlane (x0 x1 x2 x3 x4 x5 : Vec F S1x2048x128 .f32) : Vec F S1x2048x256 .f32 :=
  planeOf (tripOut k0_pay14 relCols rowSlope (planeQ x0 x1) (planeK x2 x3) (planeV x4 x5))

/-- The plane of log-sums of exponentials. -/
def lsePlane (x0 x1 x2 x3 : Vec F S1x2048x128 .f32) : Vec F S1x2048x256 .f32 :=
  planeOf (tripLse k0_pay14 relCols rowSlope (planeQ x0 x1) (planeK x2 x3))

/-- What the body leaves in each output window. -/
def out6 (x0 x1 x2 x3 x4 x5 : Vec F S1x2048x128 .f32) : Vec F S1x2048x128 .f32 :=
  View.canon [⟨rAll, k0_pay27 (View.ld (outPlane x0 x1 x2 x3 x4 x5) rLo)⟩]
def out7 (x0 x1 x2 x3 x4 x5 : Vec F S1x2048x128 .f32) : Vec F S1x2048x128 .f32 :=
  View.canon [⟨rAll, k0_pay29 (View.ld (outPlane x0 x1 x2 x3 x4 x5) rHi)⟩]
def out8 (x0 x1 x2 x3 : Vec F S1x2048x128 .f32) : Vec F S1x2048x128 .f32 :=
  View.canon [⟨rAll, k0_pay28 (View.ld (lsePlane x0 x1 x2 x3) rLo)⟩]
def out9 (x0 x1 x2 x3 : Vec F S1x2048x128 .f32) : Vec F S1x2048x128 .f32 :=
  View.canon [⟨rAll, k0_pay1 (k0_pay30 (View.ld (lsePlane x0 x1 x2 x3) rHi))⟩]

/-- A whole block's one piece covers it. -/
theorem cover_all (p : Vec F S1x2048x128 .f32) (y : S1x2048x128.Idx) :
    ∃ pc ∈ ([⟨rAll, p⟩] : List (View.Piece (Elt F) S1x2048x128 .f32)), y ∈ pc.1.set :=
  View.cover_of_tiled [⟨rAll, p⟩] S1x2048x128.size (by rfl) y

/-- Two halves cover a plane. -/
theorem cover_halves (p q : Vec F S1x2048x128 .bf16) (y : S1x2048x256.Idx) :
    ∃ pc ∈ ([⟨rHi, p⟩, ⟨rLo, q⟩] : List (View.Piece (Elt F) S1x2048x256 .bf16)), y ∈ pc.1.set :=
  View.cover_of_tiled [⟨rHi, p⟩, ⟨rLo, q⟩] S1x2048x128.size (by rfl) y

set_option maxHeartbeats 1000000 in
/-- The body on whole staging memrefs, its inputs at `x0 … x5` and everything else at anything, ends with the inputs
    as they were and the four outputs at `out6 … out9` of the inputs. -/
theorem body_run (c : Dev nD) (i : grid0.Coords) (arg1 : Memref sig .tc .vmem S1x2048x128 .f32) (harg1 : arg1.IsWhole) (arg2 : Memref sig .tc .vmem S1x2048x128 .f32) (harg2 : arg2.IsWhole) (arg3 : Memref sig .tc .vmem S1x2048x128 .f32) (harg3 : arg3.IsWhole) (arg4 : Memref sig .tc .vmem S1x2048x128 .f32) (harg4 : arg4.IsWhole) (arg5 : Memref sig .tc .vmem S1x2048x128 .f32) (harg5 : arg5.IsWhole) (arg6 : Memref sig .tc .vmem S1x2048x128 .f32) (harg6 : arg6.IsWhole) (arg7 : Memref sig .tc .vmem S1x2048x128 .f32) (harg7 : arg7.IsWhole) (arg8 : Memref sig .tc .vmem S1x2048x128 .f32) (harg8 : arg8.IsWhole) (arg9 : Memref sig .tc .vmem S1x2048x128 .f32) (harg9 : arg9.IsWhole) (arg10 : Memref sig .tc .vmem S1x2048x128 .f32) (harg10 : arg10.IsWhole) (arg11 : Memref sig .tc .vmem S1x2048x256 .bf16) (harg11 : arg11.IsWhole) (arg12 : Memref sig .tc .vmem S1x2048x256 .bf16) (harg12 : arg12.IsWhole) (arg13 : Memref sig .tc .vmem S1x2048x256 .bf16) (harg13 : arg13.IsWhole) (arg14 : Memref sig .tc .vmem S1x2048x256 .f32) (harg14 : arg14.IsWhole) (arg15 : Memref sig .tc .vmem S1x2048x256 .f32) (harg15 : arg15.IsWhole)
    (x0 : Vec F S1x2048x128 .f32) (x1 : Vec F S1x2048x128 .f32) (x2 : Vec F S1x2048x128 .f32) (x3 : Vec F S1x2048x128 .f32) (x4 : Vec F S1x2048x128 .f32) (x5 : Vec F S1x2048x128 .f32) :
      ∀ (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ (∃ d, owns (c : Thread nD τ) arg7 fullShare d) ∗ (∃ d, owns (c : Thread nD τ) arg8 fullShare d) ∗ (∃ d, owns (c : Thread nD τ) arg9 fullShare d) ∗ (∃ d, owns (c : Thread nD τ) arg10 fullShare d) ∗ (∃ d, owns (c : Thread nD τ) arg11 fullShare d) ∗ (∃ d, owns (c : Thread nD τ) arg12 fullShare d) ∗ (∃ d, owns (c : Thread nD τ) arg13 fullShare d) ∗ (∃ d, owns (c : Thread nD τ) arg14 fullShare d) ∗ (∃ d, owns (c : Thread nD τ) arg15 fullShare d)
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare (out6 x0 x1 x2 x3 x4 x5) ∗ owns (c : Thread nD τ) arg8 fullShare (out7 x0 x1 x2 x3 x4 x5) ∗ owns (c : Thread nD τ) arg9 fullShare (out8 x0 x1 x2 x3) ∗ owns (c : Thread nD τ) arg10 fullShare (out9 x0 x1 x2 x3) ∗ (∃ d, owns (c : Thread nD τ) arg11 fullShare d) ∗ (∃ d, owns (c : Thread nD τ) arg12 fullShare d) ∗ (∃ d, owns (c : Thread nD τ) arg13 fullShare d) ∗ (∃ d, owns (c : Thread nD τ) arg14 fullShare d) ∗ (∃ d, owns (c : Thread nD τ) arg15 fullShare d)) -∗ K ⟨⟩))
          ⊢ wp frame (wpE (defs₀ (F := F)) Variants.none c none) E (cc0_attn_d1 i arg1 harg1 arg2 harg2 arg3 harg3 arg4 harg4 arg5 harg5 arg6 harg6 arg7 harg7 arg8 harg8 arg9 harg9 arg10 harg10 arg11 harg11 arg12 harg12 arg13 harg13 arg14 harg14 arg15 harg15) K := by
    intro E K
    simp only [cc0_attn_d1_eq_skeleton]; unfold cc0_attn_d1_skel
    simp only [k0_part3_eq_skeleton, k0_part4_eq_skeleton, k0_part5_eq_skeleton, k0_part6_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, ⟨%d7, %f7, -, H7⟩, ⟨%d8, %f8, -, H8⟩, ⟨%d9, %f9, -, H9⟩, ⟨%ds0, %fs0, -, HS0⟩, ⟨%ds1, %fs1, -, HS1⟩, ⟨%ds2, %fs2, -, HS2⟩, ⟨%ds3, %fs3, -, HS3⟩, ⟨%ds4, %fs4, -, HS4⟩, Hk⟩
    obtain rfl := harg1.eq_unread hf0; obtain rfl := harg2.eq_unread hf1; obtain rfl := harg3.eq_unread hf2; obtain rfl := harg4.eq_unread hf3; obtain rfl := harg5.eq_unread hf4; obtain rfl := harg6.eq_unread hf5
    sl_exec
    sl_step
    have hq : View.read (Elt F) arg11.view (arg11.view.writes (Elt F) arg11.view.junk (body_run.sl.HS0_2 c arg1 harg1 arg2 harg2 x0 x1)) = planeQ x0 x1 := by
      unfold body_run.sl.HS0_2
      rw [planeQ, View.read_writes_eq_canon _ _ _ (cover_halves _ _)]
      rw [View.readAt_eq_ld, View.readAt_eq_ld, hf0, hf1]
    have hk : View.read (Elt F) arg12.view (arg12.view.writes (Elt F) arg12.view.junk (body_run.sl.HS1_2 c arg3 harg3 arg4 harg4 x2 x3)) = planeK x2 x3 := by
      unfold body_run.sl.HS1_2
      rw [planeK, View.read_writes_eq_canon _ _ _ (cover_halves _ _)]
      rw [View.readAt_eq_ld, View.readAt_eq_ld, hf2, hf3]
    have hv : View.read (Elt F) arg13.view (arg13.view.writes (Elt F) arg13.view.junk (body_run.sl.HS2_2 c arg5 harg5 arg6 harg6 x4 x5)) = planeV x4 x5 := by
      unfold body_run.sl.HS2_2
      rw [planeV, View.read_writes_eq_canon _ _ _ (cover_halves _ _)]
      unfold body_run.sl.r
      rw [View.readAt_eq_ld, View.readAt_eq_ld, hf4, hf5]
    have hr : body_run.sl.r_1 = relCols := rfl
    have hc : (body_run.sl.cst_52 : F .f32) = Scalar.ofBits .f32 0x3E800000#32 := rfl
    have ht : Scf.trips k0_t1_loop.lb k0_t1_loop.ub k0_t1_loop.st = k0_t1_loop.trips := rfl
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]
    · iexists _; isplitr; · ipureintro; exact harg6.read_unread _
      iexact H5
    isplitl [H6]
    · iexists _; isplitr; swap; · iexact H6
      ipureintro
      refine (View.read_writes_eq_canon _ _ _ (cover_all _)).trans ?_
      unfold out6 body_run.sl.v119
      rw [View.readAt_eq_ld, ht, loop_out, hq, hk, hv, hr, hc]; rfl
    isplitl [H7]
    · iexists _; isplitr; swap; · iexact H7
      ipureintro
      refine (View.read_writes_eq_canon _ _ _ (cover_all _)).trans ?_
      unfold out7 body_run.sl.v129
      rw [View.readAt_eq_ld, ht, loop_out, hq, hk, hv, hr, hc]; rfl
    isplitl [H8]
    · iexists _; isplitr; swap; · iexact H8
      ipureintro
      refine (View.read_writes_eq_canon _ _ _ (cover_all _)).trans ?_
      unfold out8 body_run.sl.v124
      rw [View.readAt_eq_ld, ht, loop_lse, hq, hk, hr, hc]; rfl
    isplitl [H9]
    · iexists _; isplitr; swap; · iexact H9
      ipureintro
      refine (View.read_writes_eq_canon _ _ _ (cover_all _)).trans ?_
      unfold out9 body_run.sl.r_2 body_run.sl.v134
      rw [View.readAt_eq_ld, ht, loop_lse, hq, hk, hr, hc]; rfl
    isplitl [HS0]
    · iexists _, _; isplitr; swap; · iexact HS0
      ipureintro; rfl
    isplitl [HS1]
    · iexists _, _; isplitr; swap; · iexact HS1
      ipureintro; rfl
    isplitl [HS2]
    · iexists _, _; isplitr; swap; · iexact HS2
      ipureintro; rfl
    isplitl [HS3]
    · iexists _, _; isplitr; swap; · iexact HS3
      ipureintro; rfl
    iexists _, _; isplitr; swap; · iexact HS4
    ipureintro; rfl

/-! ## The scratch buffers as memrefs -/

abbrev sc0 : Memref sig .tc .vmem S1x2048x256 .bf16 := Memref.whole cc0_scratch0
abbrev sc1 : Memref sig .tc .vmem S1x2048x256 .bf16 := Memref.whole cc0_scratch1
abbrev sc2 : Memref sig .tc .vmem S1x2048x256 .bf16 := Memref.whole cc0_scratch2
abbrev sc3 : Memref sig .tc .vmem S1x2048x256 .f32 := Memref.whole cc0_scratch3
abbrev sc4 : Memref sig .tc .vmem S1x2048x256 .f32 := Memref.whole cc0_scratch4

/-- The kit's invariant, the five scratch buffers read as memrefs owned at some contents. -/
theorem PhiA0_eq (c : Dev nD) :
    (Pipeline.ΦA spec0 c : sProp 𝕄)
      = iprop(iprop((∃ d, owns (c : Thread nD τ) sc0 fullShare d) ∗ (∃ d, owns (c : Thread nD τ) sc1 fullShare d) ∗ (∃ d, owns (c : Thread nD τ) sc2 fullShare d) ∗ (∃ d, owns (c : Thread nD τ) sc3 fullShare d) ∗ (∃ d, owns (c : Thread nD τ) sc4 fullShare d)) ∗ (∃ r, prngReg c r)) := by
  unfold Pipeline.ΦA; rw [scopedRest0_eq]; simp only [sc0, sc1, sc2, sc3, sc4, owns_whole]; try rfl

/-! ## The pipeline's proof data -/

variable (m : (ℓ : Loc nD τ sig) → Buf (Elt F) ℓ) (ρ : Dev nD → PrngReg)

/-- The arrays as the region finds them; after the body each input's buffer at its block and each output's at
    `out6 … out9` of the input blocks; nothing owed; the inputs' one array shared among its six windows. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => out6 (iblk m c 0 t) (iblk m c 1 t) (iblk m c 2 t) (iblk m c 3 t) (iblk m c 4 t) (iblk m c 5 t)
    | ⟨7, _⟩ => out7 (iblk m c 0 t) (iblk m c 1 t) (iblk m c 2 t) (iblk m c 3 t) (iblk m c 4 t) (iblk m c 5 t)
    | ⟨8, _⟩ => out8 (iblk m c 0 t) (iblk m c 1 t) (iblk m c 2 t) (iblk m c 3 t)
    | ⟨9, _⟩ => out9 (iblk m c 0 t) (iblk m c 1 t) (iblk m c 2 t) (iblk m c 3 t)
  Φ _ := Pipeline.ΦA spec0 c
  q w := Pipeline.shareOf spec0 w
  owed _ := 0

theorem A_eq (c : Dev nD) (w : Fin cfg0.W) : (dats m 0 c).A w = V m c (Pipeline.arrRef spec0 w) := by
  dsimp only [dats]

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = iblk m c 5 t := by dsimp only [dats]
theorem after0_6 (c : Dev nD) (t : Fin cfg0.N) : (dats m 0 c).after 6 t = out6 (iblk m c 0 t) (iblk m c 1 t) (iblk m c 2 t) (iblk m c 3 t) (iblk m c 4 t) (iblk m c 5 t) := by dsimp only [dats]
theorem after0_7 (c : Dev nD) (t : Fin cfg0.N) : (dats m 0 c).after 7 t = out7 (iblk m c 0 t) (iblk m c 1 t) (iblk m c 2 t) (iblk m c 3 t) (iblk m c 4 t) (iblk m c 5 t) := by dsimp only [dats]
theorem after0_8 (c : Dev nD) (t : Fin cfg0.N) : (dats m 0 c).after 8 t = out8 (iblk m c 0 t) (iblk m c 1 t) (iblk m c 2 t) (iblk m c 3 t) := by dsimp only [dats]
theorem after0_9 (c : Dev nD) (t : Fin cfg0.N) : (dats m 0 c).after 9 t = out9 (iblk m c 0 t) (iblk m c 1 t) (iblk m c 2 t) (iblk m c 3 t) := by dsimp only [dats]

theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d
theorem before0_4 (c : Dev nD) (t : Fin cfg0.N) (d) : (dats m 0 c).before 4 t d = iblk m c 4 t :=
  before0_4_of m (dats m 0 c) (A_eq m c 4) (after0_4 m c) t d
theorem before0_5 (c : Dev nD) (t : Fin cfg0.N) (d) : (dats m 0 c).before 5 t d = iblk m c 5 t :=
  before0_5_of m (dats m 0 c) (A_eq m c 5) (after0_5 m c) t d

/-! ## The body at a grid point -/

/-- What the body is called with at point `t`, window by window. -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d))
    ∗ (∃ d, owns (c : Thread nD τ) (st0_5 t) fullShare ((dats m 0 c).before 5 t d))
    ∗ (∃ d, owns (c : Thread nD τ) (st0_6 t) fullShare ((dats m 0 c).before 6 t d))
    ∗ (∃ d, owns (c : Thread nD τ) (st0_7 t) fullShare ((dats m 0 c).before 7 t d))
    ∗ (∃ d, owns (c : Thread nD τ) (st0_8 t) fullShare ((dats m 0 c).before 8 t d))
    ∗ (∃ d, owns (c : Thread nD τ) (st0_9 t) fullShare ((dats m 0 c).before 9 t d)))

/-- What the body returns. -/
def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t)
    ∗ owns (c : Thread nD τ) (st0_4 t) fullShare ((dats m 0 c).after 4 t)
    ∗ owns (c : Thread nD τ) (st0_5 t) fullShare ((dats m 0 c).after 5 t)
    ∗ owns (c : Thread nD τ) (st0_6 t) fullShare ((dats m 0 c).after 6 t)
    ∗ owns (c : Thread nD τ) (st0_7 t) fullShare ((dats m 0 c).after 7 t)
    ∗ owns (c : Thread nD τ) (st0_8 t) fullShare ((dats m 0 c).after 8 t)
    ∗ owns (c : Thread nD τ) (st0_9 t) fullShare ((dats m 0 c).after 9 t))

set_option maxHeartbeats 1200000 in
/-- The body at any point: the inputs' buffers hold their blocks, so the run applies; the scratch is handed over at
    some contents and taken back at some contents. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4, before0_5]
  rw [show (dats m 0 c).Φ t.succ = (dats m 0 c).Φ t.castSucc from rfl,
    show (dats m 0 c).owesAt () t.succ = (dats m 0 c).owesAt () t.castSucc from rfl,
    after0_0, after0_1, after0_2, after0_3, after0_4, after0_5, after0_6, after0_7, after0_8, after0_9]
  rw [show (dats m 0 c).Φ t.castSucc = Pipeline.ΦA spec0 c from rfl, PhiA0_eq]
  iintro ⟨⟨⟨HS0, HS1, HS2, HS3, HS4⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩⟩
  iapply ((body_run c (grid0.coords t) _ _ _ _ _ _ _ _ _ _ _ _ _ _ _ _ _ _ _ _ _ _ _ _ _ _ _ _ _ _ (iblk m c 0 t) (iblk m c 1 t) (iblk m c 2 t) (iblk m c 3 t) (iblk m c 4 t) (iblk m c 5 t)) Set.univ _)
  isplitl [H0]; · iexact H0
  isplitl [H1]; · iexact H1
  isplitl [H2]; · iexact H2
  isplitl [H3]; · iexact H3
  isplitl [H4]; · iexact H4
  isplitl [H5]; · iexact H5
  isplitl [H6]; · iexists _; iexact H6
  isplitl [H7]; · iexists _; iexact H7
  isplitl [H8]; · iexists _; iexact H8
  isplitl [H9]; · iexists _; iexact H9
  isplitl [HS0]; · iexact HS0
  isplitl [HS1]; · iexact HS1
  isplitl [HS2]; · iexact HS2
  isplitl [HS3]; · iexact HS3
  isplitl [HS4]; · iexact HS4
  iintro ⟨H0, H1, H2, H3, H4, H5, H6, H7, H8, H9, HS0, HS1, HS2, HS3, HS4⟩
  isplitl [HS0 HS1 HS2 HS3 HS4 Hg]
  · isplitl [HS0 HS1 HS2 HS3 HS4]
    · isplitl [HS0]
      · iexact HS0
      isplitl [HS1]
      · iexact HS1
      isplitl [HS2]
      · iexact HS2
      isplitl [HS3]
      · iexact HS3
      iexact HS4
    iexact Hg
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  iexact H9

theorem defs₀_row (t : Fin cfg0.N) :
    defs₀ (F := F) .tc cfg0.body (cfg0.bodyArgs t (cfg0.slots t)) = bodyAt0 t := by
  unfold defs₀; rw [Defs.onTc_tc]

/-- The library's body obligation, at every point. -/
theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

/-! ## The launch -/

set_option backward.isDefEq.respectTransparency.types false in
set_option maxHeartbeats 800000 in
/-- Every execution ends with every array of the pipeline at what the proof data computes, and every counter at zero. -/
theorem run_main_quiescent : θ_run defs (onTc (τ := τ) (main (F := F))) (s₀ m ρ) (fun r => (Pipeline.FramePost cfgs (dats m) 0 (V m)) r ∧ r.2.sem = fun _ => 0) :=
  Pipeline.θ_run_frame_shared (Q' := _) cfgs (dats m) (0 : Fin 1) launch₀0 defs₀ Variants.none m ρ main
    (hbody := fun c => (body_obligation m c).loose) (hq := fun _ _ _ => rfl)
    (howed := fun _ _ => rfl) (V := V m) (hmain := hmain m Variants.none) (hA := A_eq m) (hΦ := fun _ _ => rfl)

/-- The run with the four outputs named, the argument unchanged and every counter at zero. -/
theorem run_blocks : θ_run defs (onTc (τ := τ) (main (F := F))) ⟨m, fun _ => 0, ρ⟩ fun r => (∀ c : Dev nD,
      r.2.mem ((c.tc : Thread nD τ).loc main_v0_0) = (dats m 0 c).arrAt 6 cfg0.N
      ∧ r.2.mem ((c.tc : Thread nD τ).loc main_v0_1) = (dats m 0 c).arrAt 7 cfg0.N
      ∧ r.2.mem ((c.tc : Thread nD τ).loc main_v0_2) = (dats m 0 c).arrAt 8 cfg0.N
      ∧ r.2.mem ((c.tc : Thread nD τ).loc main_v0_3) = (dats m 0 c).arrAt 9 cfg0.N
      ∧ r.2.mem ((c.tc : Thread nD τ).loc main_arg0) = m ((c.tc : Thread nD τ).loc main_arg0))
      ∧ r.2.sem = fun _ => 0 :=
  (θ_run defs _ _).mono (fun r h => ⟨fun c => ⟨(h.1 c).1 6, (h.1 c).1 7, (h.1 c).1 8, (h.1 c).1 9,
      ((h.1 c).1 5).trans (((dats m 0 c).arrAt_in 5 rfl _).trans ((A_eq m c 5).trans (V_main_arg0 m c)))⟩, h.2⟩)
    (run_main_quiescent m ρ)

/-- The argument ends unchanged and every counter at zero. -/
theorem frame_attn : θ_run defs (onTc (τ := τ) (main (F := F))) ⟨m, fun _ => 0, ρ⟩ (fun r => (∀ c : Dev nD,
      r.2.mem ((c.tc : Thread nD τ).loc main_arg0) = m ((c.tc : Thread nD τ).loc main_arg0))
      ∧ r.2.sem = fun _ => 0) :=
  (θ_run defs _ _).mono (fun _ h => ⟨fun c => (h.1 c).2.2.2.2, h.2⟩) (run_blocks m ρ)

end Cert.Proof.Attn

end
-- ==== Proof.AttnMath.lean ====
/- Attention over the keys near a query, on the extended reals: its value as the layer states it, and the
   same value computed over any row of positions that holds those keys and masks all else. -/
module

public import proofs.«01_k».proof.Defs
public import Idealize.ShloMosaic.Lib.ValueIdx
public import Idealize.ShloMosaic.Lib.IdealHost
public import Idealize.ShloMosaic.Lib.Pointwise

@[expose] public section

noncomputable section

namespace Cert.Proof.AttnMath

open Idealize.ShloMosaic

/-! ### Extended reals that are real numbers -/

/-- Neither infinity. -/
def IsReal (x : EReal) : Prop := ∃ r : ℝ, x = (r : EReal)

theorem IsReal.mul {x y : EReal} : IsReal x → IsReal y → IsReal (x * y)
  | ⟨a, ha⟩, ⟨b, hb⟩ => ⟨a * b, by rw [ha, hb, EReal.coe_mul]⟩

theorem IsReal.sub {x y : EReal} : IsReal x → IsReal y → IsReal (x - y)
  | ⟨a, ha⟩, ⟨b, hb⟩ => ⟨a - b, by rw [ha, hb, EReal.coe_sub]⟩

theorem IsReal.sum {ι : Type*} (s : Finset ι) (f : ι → EReal) (h : ∀ i ∈ s, IsReal (f i)) : IsReal (∑ i ∈ s, f i) := by
  classical
  induction s using Finset.induction_on with
  | empty => exact ⟨0, by simp⟩
  | insert a s ha ih =>
      obtain ⟨p, hp⟩ := h a (Finset.mem_insert_self a s)
      obtain ⟨r, hr⟩ := ih fun i hi => h i (Finset.mem_insert_of_mem hi)
      exact ⟨p + r, by rw [Finset.sum_insert ha, hp, hr, EReal.coe_add]⟩

/-- A sum of quotients by a positive real is the quotient of the sum, whatever the terms are. -/
theorem sum_div {ι : Type*} (s : Finset ι) (p v : ι → EReal) {d : ℝ} (hd : 0 < d) :
    ∑ i ∈ s, Ideal.div (p i) d * v i = Ideal.div (∑ i ∈ s, p i * v i) d := by
  classical
  have h0 : (d : EReal) ≠ 0 := by
    intro h; exact hd.ne' (by exact_mod_cast h)
  have hinv : (d : EReal)⁻¹ = ((d⁻¹ : ℝ) : EReal) := (EReal.coe_inv d).symm
  have hpos : (0 : EReal) ≤ ((d⁻¹ : ℝ) : EReal) := by exact_mod_cast (inv_pos.mpr hd).le
  have hx (x : EReal) : Ideal.div x d = x * ((d⁻¹ : ℝ) : EReal) := by
    unfold Ideal.div; rw [if_neg h0, hinv]
  rw [hx]
  induction s using Finset.induction_on with
  | empty => simp
  | insert a s ha ih =>
      rw [Finset.sum_insert ha, Finset.sum_insert ha, ih,
        EReal.right_distrib_of_nonneg_of_ne_top hpos (EReal.coe_ne_top _), hx, mul_right_comm]

/-! ### The layer's attention at one head -/

/-- How far a key is from a query. -/
def dist (i j : Fin 2048) : ℕ := (i.val - j.val) + (j.val - i.val)

/-- The keys a query attends to. -/
def keys (i : Fin 2048) : Finset (Fin 2048) := Finset.univ.filter fun j => dist i j ≤ 64

theorem mem_keys {i j : Fin 2048} : j ∈ keys i ↔ dist i j ≤ 64 := by simp [keys]

section
variable (q k v : Fin 2048 → Fin 64 → EReal) (s : EReal) (i : Fin 2048)

/-- The score of a key: the scaled product with the query, less the slope times the distance. -/
def score (j : Fin 2048) : EReal :=
  (∑ c, q i c * k j c) * Ideal.ofBits .f32 0x3E000000#32
    - s * FloatOps.sitofp (F := Ideal) .f32 (BitVec.ofNat 32 (dist i j))

/-- The greatest score of the keys attended to. -/
def top : EReal := (keys i).sup (score q k s i)

/-- The weight of a key before normalization. -/
def weight (j : Fin 2048) : EReal := Ideal.exp (score q k s i j - top q k s i)

/-- The sum of the weights. -/
def den : EReal := ∑ j ∈ keys i, weight q k s i j

/-- The attention's output. -/
def out (c : Fin 64) : EReal := Ideal.div (∑ j ∈ keys i, weight q k s i j * v j c) (den q k s i)

/-- The log of the sum of the scores' exponentials. -/
def lse : EReal := top q k s i + Ideal.log (den q k s i)
end

/-! ### The same over a row of positions -/

/-- A sum over a row of `W` positions, position `w` holding key `base + w - off` where that is a key attended
    to and zero where it is not, is the sum over the keys attended to. -/
theorem row_sum {M : Type*} [AddCommMonoid M] {W base off : ℕ} {i : Fin 2048} (f : Fin 2048 → M) (g : Fin W → M)
    (hc : ∀ j ∈ keys i, base ≤ j.val + off ∧ j.val + off < base + W)
    (hin : ∀ w j, j.val + off = base + w.val → j ∈ keys i → g w = f j)
    (hout : ∀ w : Fin W, (∀ j : Fin 2048, j.val + off = base + w.val → j ∉ keys i) → g w = 0) :
    ∑ w, g w = ∑ j ∈ keys i, f j := by
  have h1 : ∀ j ∈ keys i, f j = ∑ w : Fin W, if j.val + off = base + w.val then g w else 0 := fun j hj => by
    have hb := hc j hj
    rw [Finset.sum_eq_single (⟨j.val + off - base, by omega⟩ : Fin W)]
    · rw [if_pos (by simp only; omega)]
      exact (hin _ j (by simp only; omega) hj).symm
    · intro w _ hw
      rw [if_neg]
      intro h
      exact hw (Fin.ext (by simp only; omega))
    · intro h; exact absurd (Finset.mem_univ _) h
  rw [Finset.sum_congr rfl h1, Finset.sum_comm]
  refine Finset.sum_congr rfl fun w _ => ?_
  by_cases h : ∃ j ∈ keys i, j.val + off = base + w.val
  · obtain ⟨j, hj, he⟩ := h
    rw [Finset.sum_eq_single j]
    · rw [if_pos he]
    · intro j' _ hne
      rw [if_neg]
      intro h'
      exact hne (Fin.ext (by omega))
    · intro h; exact absurd hj h
  · rw [hout w fun j he hj => h ⟨j, hj, he⟩]
    exact (Finset.sum_eq_zero fun j _ => ite_self _).symm

/-- A row of positions that holds every key attended to, and bottom where it holds none. -/
structure IsRow (q k : Fin 2048 → Fin 64 → EReal) (s : EReal) (i : Fin 2048) {W : ℕ} (base off : ℕ)
    (g : Fin W → EReal) : Prop where
  cover : ∀ j ∈ keys i, base ≤ j.val + off ∧ j.val + off < base + W
  hit : ∀ w j, j.val + off = base + w.val → j ∈ keys i → g w = score q k s i j
  miss : ∀ w : Fin W, (∀ j : Fin 2048, j.val + off = base + w.val → j ∉ keys i) → g w = ⊥

section
variable {q k v : Fin 2048 → Fin 64 → EReal} {s : EReal} {i : Fin 2048} {W base off : ℕ} {g : Fin W → EReal}

/-- The row's greatest entry is the greatest score. -/
theorem IsRow.fold_max (h : IsRow q k s i base off g) : Finset.univ.fold max ⊥ g = top q k s i := by
  show Finset.univ.sup g = _
  refine le_antisymm (Finset.sup_le fun w _ => ?_) (Finset.sup_le fun j hj => ?_)
  · by_cases hw : ∃ j ∈ keys i, j.val + off = base + w.val
    · obtain ⟨j, hj, he⟩ := hw
      rw [h.hit w j he hj]
      exact Finset.le_sup (f := score q k s i) hj
    · rw [h.miss w fun j he hj => hw ⟨j, hj, he⟩]
      exact bot_le
  · have hb := h.cover j hj
    rw [← h.hit ⟨j.val + off - base, by omega⟩ j (by simp only; omega) hj]
    exact Finset.le_sup (f := g) (Finset.mem_univ _)

section
variable (hq : ∀ i c, IsReal (q i c)) (hk : ∀ j c, IsReal (k j c)) (hs : IsReal s)
include hq hk hs

theorem fin_score (j : Fin 2048) : IsReal (score q k s i j) := by
  refine IsReal.sub (IsReal.mul (IsReal.sum _ _ fun c _ => (hq i c).mul (hk j c)) ?_) (hs.mul ⟨_, rfl⟩)
  exact ⟨1 / 8, by simp [Ideal.ofBits, Ideal.ieee, -EReal.coe_mul]; norm_num⟩

theorem fin_top : IsReal (top q k s i) := by
  obtain ⟨j, _, hj⟩ := Finset.exists_mem_eq_sup (keys i) ⟨i, mem_keys.mpr (by simp [dist])⟩ (score q k s i)
  unfold top
  rw [hj]
  exact fin_score hq hk hs j

theorem weight_pos (j : Fin 2048) : ∃ r : ℝ, 0 < r ∧ weight q k s i j = (r : EReal) := by
  obtain ⟨a, ha⟩ := (fin_score hq hk hs j).sub (fin_top (i := i) hq hk hs)
  exact ⟨Real.exp a, Real.exp_pos a, by unfold weight; rw [ha]; rfl⟩

theorem den_pos : ∃ d : ℝ, 0 < d ∧ den q k s i = (d : EReal) := by
  choose r hr using fun j => weight_pos (i := i) hq hk hs j
  refine ⟨∑ j ∈ keys i, r j, Finset.sum_pos (fun j _ => (hr j).1) ⟨i, mem_keys.mpr (by simp [dist])⟩, ?_⟩
  unfold den
  rw [Finset.sum_congr rfl fun j _ => (hr j).2]
  exact (map_sum (⟨⟨fun x : ℝ => (x : EReal), EReal.coe_zero⟩, EReal.coe_add⟩ : ℝ →+ EReal) r (keys i)).symm

/-- What a masked position weighs. -/
theorem masked : Ideal.exp (⊥ - top q k s i) = 0 := by
  obtain ⟨a, ha⟩ := fin_top (i := i) hq hk hs
  rw [ha]; rfl

/-- The row's sum of exponentials is the sum of the weights. -/
theorem IsRow.sum_exp (h : IsRow q k s i base off g) : ∑ w, Ideal.exp (g w - top q k s i) = den q k s i :=
  row_sum (weight q k s i) _ h.cover (fun w j he hj => by rw [h.hit w j he hj]; rfl)
    fun w hw => by rw [h.miss w hw]; exact masked hq hk hs

/-- The row's weighted sum of the values, divided by the sum of the weights, is the attention's output. -/
theorem IsRow.div_sum (h : IsRow q k s i base off g) (c : Fin 64) (u : Fin W → EReal)
    (hu : ∀ w j, j.val + off = base + w.val → u w = v j c) :
    Ideal.div (∑ w, Ideal.exp (g w - top q k s i) * u w) (den q k s i) = out q k v s i c := by
  unfold out
  congr 1
  exact row_sum (fun j => weight q k s i j * v j c) _ h.cover
    (fun w j he hj => by rw [h.hit w j he hj, hu w j he]; rfl)
    fun w hw => by rw [h.miss w hw, masked hq hk hs, zero_mul]

/-- The row's sum of the values weighted by the normalized weights is the attention's output. -/
theorem IsRow.sum_div (h : IsRow q k s i base off g) (c : Fin 64) (u : Fin W → EReal)
    (hu : ∀ w j, j.val + off = base + w.val → u w = v j c) :
    ∑ w, Ideal.div (Ideal.exp (g w - top q k s i)) (den q k s i) * u w = out q k v s i c := by
  rw [← h.div_sum hq hk hs c u hu]
  obtain ⟨d, hd, e⟩ := den_pos (i := i) hq hk hs
  rw [e]
  exact AttnMath.sum_div _ _ _ hd
end
end

/-- A sum over the 256 lanes of the terms of one head is the sum over the head's 64 lanes. -/
theorem sum_head (h : Fin 4) (f : Fin 256 → EReal) (g : Fin 64 → EReal)
    (hg : ∀ c : Fin 64, f ⟨h.val * 64 + c.val, by omega⟩ = g c)
    (h0 : ∀ l : Fin 256, l.val / 64 ≠ h.val → f l = 0) : ∑ l, f l = ∑ c, g c := by
  symm
  refine Finset.sum_of_injOn (fun c : Fin 64 => (⟨h.val * 64 + c.val, by omega⟩ : Fin 256)) ?_ ?_ ?_ ?_
  · intro a _ b _ hab
    have := congrArg Fin.val hab
    exact Fin.ext (by simp only at this; omega)
  · intro _ _; exact Finset.mem_coe.mpr (Finset.mem_univ _)
  · intro l _ hl
    refine h0 l fun he => hl ?_
    exact ⟨⟨l.val % 64, Nat.mod_lt _ (by decide)⟩, Finset.mem_coe.mpr (Finset.mem_univ _), Fin.ext (by simp only; omega)⟩
  · intro c _; exact (hg c).symm

/-! ### Index words -/

/-- The absolute difference of two small numbers, as words. -/
theorem word_abs (x y : ℕ) (hx : x < 65536) (hy : y < 65536) :
    IntOp.absi (BitVec.ofNat 32 x - BitVec.ofNat 32 y) = BitVec.ofNat 32 ((y - x) + (x - y)) := by
  unfold IntOp.absi
  apply BitVec.eq_of_toNat_eq
  simp only [BitVec.msb_eq_decide, decide_eq_true_eq]
  split <;> rename_i h <;> simp only [BitVec.toNat_sub, BitVec.toNat_neg, BitVec.toNat_ofNat] at h ⊢ <;> omega

/-- The signed comparison of a small number with a smaller one. -/
theorem word_le (d e : ℕ) (hd : d < 65536) (he : e < 65536) :
    IntOp.cmpi CmpIPredicate.sle (BitVec.ofNat 32 d) (BitVec.ofNat 32 e) = if d ≤ e then 1#1 else 0#1 := by
  have h (d : ℕ) (hd : d < 65536) : (BitVec.ofNat 32 d).toInt = d := by
    rw [BitVec.toInt_eq_toNat_cond, BitVec.toNat_ofNat, if_pos] <;> omega
  unfold IntOp.cmpi
  simp only [BitVec.sle, h d hd, h e he]
  by_cases h : d ≤ e <;> simp [h]

/-- The comparison of two small numbers for equality. -/
theorem word_eq (d e : ℕ) (hd : d < 65536) (he : e < 65536) :
    IntOp.cmpi CmpIPredicate.eq (BitVec.ofNat 32 d) (BitVec.ofNat 32 e) = if d = e then 1#1 else 0#1 := by
  have h : BitVec.ofNat 32 d = BitVec.ofNat 32 e ↔ d = e := by
    rw [← BitVec.toNat_inj, BitVec.toNat_ofNat, BitVec.toNat_ofNat]; omega
  unfold IntOp.cmpi
  simp only [beq_eq_decide, h]
  by_cases h : d = e <;> simp [h]

/-- A small number less 64, as a word, compared with zero. -/
theorem word_sub_ge (x : ℕ) (hx : x < 65536) :
    IntOp.cmpi CmpIPredicate.sge (BitVec.ofNat 32 x - 64#32) 0#32 = if 64 ≤ x then 1#1 else 0#1 := by
  have h : (BitVec.ofNat 32 x - 64#32).toInt = (x : ℤ) - 64 := by
    rw [BitVec.toInt_eq_toNat_cond]
    simp only [BitVec.toNat_sub, BitVec.toNat_ofNat]
    split <;> omega
  unfold IntOp.cmpi
  simp only [BitVec.sle, h, BitVec.toInt_zero]
  by_cases h : 64 ≤ x
  · rw [if_pos h, decide_eq_true (by omega)]; rfl
  · rw [if_neg h, decide_eq_false (by omega)]; rfl

/-- A small number less 64, as a word, compared with the sequence's length. -/
theorem word_sub_lt (x : ℕ) (hx : x < 65536) :
    IntOp.cmpi CmpIPredicate.slt (BitVec.ofNat 32 x - 64#32) 2048#32 = if x < 2112 then 1#1 else 0#1 := by
  have h : (BitVec.ofNat 32 x - 64#32).toInt = (x : ℤ) - 64 := by
    rw [BitVec.toInt_eq_toNat_cond]
    simp only [BitVec.toNat_sub, BitVec.toNat_ofNat]
    split <;> omega
  have h' : (2048#32 : BitVec 32).toInt = 2048 := by decide
  unfold IntOp.cmpi
  simp only [BitVec.slt, h, h']
  by_cases h : x < 2112
  · rw [if_pos h, decide_eq_true (by omega)]; rfl
  · rw [if_neg h, decide_eq_false (by omega)]; rfl

/-- The conjunction of two decided bits. -/
theorem andi_ite (p q : Prop) [Decidable p] [Decidable q] :
    IntOp.andi (if p then 1#1 else 0#1) (if q then 1#1 else 0#1) = if p ∧ q then 1#1 else 0#1 := by
  by_cases hp : p <;> by_cases hq : q <;> simp [hp, hq, IntOp.andi]

/-- A selection by a decided bit. -/
theorem select_ite {α : Type} (p : Prop) [Decidable p] (x y : α) :
    Scalar.select (if p then 1#1 else 0#1) x y = if p then x else y := by
  split <;> rfl

/-! ### The slopes -/

/-- The slope of a head. -/
def slope (h : Fin 4) : EReal :=
  ![Ideal.ofBits .f32 0x3F214518#32, Ideal.ofBits .f32 0x3ECB2FF5#32, Ideal.ofBits .f32 0x3E800000#32,
    Ideal.ofBits .f32 0x3E214518#32] h

theorem fin_slope (h : Fin 4) : IsReal (slope h) := by
  fin_cases h
  all_goals
    simp only [slope, Ideal.ofBits, Ideal.ieee]
    norm_num
    exact ⟨_, rfl⟩

/-! ### The attention over the array of projections -/

/-- The array of projections the attention reads. -/
abbrev Proj : Type := (⟨3, ![16, 2048, 2560]⟩ : Shape).Idx → EReal

section
variable (X : Proj) (b : Fin 16) (h : Fin 4)

/-- The queries of one head of one sequence. -/
def qOf : Fin 2048 → Fin 64 → EReal := fun i c => X (ix3 b i ⟨256 + (h.val * 64 + c.val), by omega⟩)

/-- The keys of one head of one sequence. -/
def kOf : Fin 2048 → Fin 64 → EReal := fun i c => X (ix3 b i ⟨1024 + (h.val * 64 + c.val), by omega⟩)

/-- The values of one head of one sequence. -/
def vOf : Fin 2048 → Fin 64 → EReal := fun i c => X (ix3 b i ⟨1792 + (h.val * 64 + c.val), by omega⟩)
end

/-- The head a lane of the 256 belongs to. -/
abbrev headIx (l : Fin 256) : Fin 4 := ⟨l.val / 64, by omega⟩

/-- A lane's place in its head. -/
abbrev laneIx (l : Fin 256) : Fin 64 := ⟨l.val % 64, by omega⟩

theorem lane_eq (l : Fin 256) : l = ⟨(headIx l).val * 64 + (laneIx l).val, by omega⟩ :=
  Fin.ext (by simp only; omega)

/-- A lane of the lower heads among the 256. -/
abbrev lowLane (l : Fin 128) : Fin 256 := ⟨l.val, by omega⟩

/-- A lane of the upper heads among the 256. -/
abbrev highLane (l : Fin 128) : Fin 256 := ⟨128 + l.val, by omega⟩

/-- The attention's output at a query and a lane. -/
def attnOut (X : Proj) (b : Fin 16) (i : Fin 2048) (l : Fin 256) : EReal :=
  out (qOf X b (headIx l)) (kOf X b (headIx l)) (vOf X b (headIx l)) (slope (headIx l)) i (laneIx l)

/-- The attention's log-sum of exponentials at a query and a lane. -/
def attnLse (X : Proj) (b : Fin 16) (i : Fin 2048) (l : Fin 256) : EReal :=
  lse (qOf X b (headIx l)) (kOf X b (headIx l)) (slope (headIx l)) i

/-- Every query and every key is a real number. -/
def Finite (X : Proj) : Prop := ∀ b h i c, IsReal (qOf X b h i c) ∧ IsReal (kOf X b h i c)

end Cert.Proof.AttnMath
-- ==== Proof.AttnTripValue.lean ====
/- One trip of the attention kernel's loop on the extended reals: each of its rows of masked scores holds the
   keys near one query, so that its results are the layer's attention at that query. -/
module

public import proofs.«01_k».proof.Proof.AttnRun
public import proofs.«01_k».proof.Proof.AttnMath
public import Idealize.ShloMosaic.Lib.Pointwise
@[expose] public section
set_option maxRecDepth 16384
noncomputable section
namespace Cert.Proof.Attn
open Idealize.ShloMosaic Idealize.ShloMosaic.TcCoe Idealize.SL.Sem
open Cert.KernelIdeal Cert.KernelIdeal.Gen

/-- The head a lane belongs to. -/
theorem lane_head (a : Fin 128) (l : Fin 256) : k0_pay14 (ix2 a l) = BitVec.ofNat 32 (l.val / 64) := by
  pointwise [k0_pay14]
  revert l
  decide +kernel

/-- A column's key less a row's query, both counted from the trip's first. -/
theorem rel_cols (r : Fin 512) (w : Fin 256) :
    relCols (ix2 r w) = BitVec.ofNat 32 w.val - BitVec.ofNat 32 (r.val % 128) := by
  pointwise [relCols, k0_pay15, k0_pay16]
  refine congrArg (BitVec.ofNat 32 w.val - ·) ?_
  revert r
  decide +kernel

/-- The head a stacked row belongs to. -/
theorem row_head (r : Fin 512) : k0_pay17 (ix2 r 0) = BitVec.ofNat 32 (r.val / 128) := by
  pointwise [k0_pay17]
  revert r
  decide +kernel

/-- A row's slope is its head's. -/
theorem row_slope (h : Fin 4) (a : Fin 128) :
    rowSlope (F := Ideal) (ix2 ⟨h.val * 128 + a.val, by omega⟩ 0) = AttnMath.slope h := by
  have e : (h.val * 128 + a.val) / 128 = h.val := by omega
  pointwise [rowSlope, k0_pay20, k0_pay18, k0_pay19]
  rw [row_head]
  simp only [e]
  fin_cases h <;> rfl

/-- The first key of a trip: 64 before its first query, moved into the sequence. -/
def kbase (t : Fin k0_t1_loop.trips) : ℕ := min (128 * t.val - 64) 1792

/-- A trip's key rows start at its first key. -/
theorem off2 (t : Fin k0_t1_loop.trips) : k0_off2 t = ![0, kbase t, 0] := by
  revert t; decide +kernel

/-- The kernel's word for a trip's first key. -/
theorem word_k (t : Fin k0_t1_loop.trips) : wordK t = BitVec.ofNat 32 (kbase t) := by
  revert t; decide +kernel

/-- The kernel's word for a trip's first query. -/
theorem word_q (t : Fin k0_t1_loop.trips) : wordQ t = BitVec.ofNat 32 (128 * t.val) := by
  revert t; decide +kernel

/-- A trip's block of queries, read at one lane of one query. -/
theorem ld_q (P : Vec Ideal S1x2048x256 .bf16) (t : Fin k0_t1_loop.trips) (a : Fin 128) (l : Fin 256)
    (i : Fin 2048) (hi : i.val = 128 * t.val + a.val) :
    View.ld P (rowsQ t) (ix3 0 a l) = P (ix3 0 i l) := by
  refine congrArg P (funext fun b => Fin.ext ?_)
  show (k0_off1 t b + 1 * (ix3 0 a l : S1x128x256.Idx) b) = _
  rw [off1]
  fin_cases b
  · rfl
  · show 128 * t.val + 1 * a.val = i.val; omega
  · show 0 + 1 * l.val = l.val; omega

/-- A trip's block of keys or values, read at one lane of one key. -/
theorem ld_k (P : Vec Ideal S1x2048x256 .bf16) (t : Fin k0_t1_loop.trips) (w : Fin 256) (l : Fin 256)
    (j : Fin 2048) (hj : j.val = kbase t + w.val) :
    View.ld P (rowsK t) (ix3 0 w l) = P (ix3 0 j l) := by
  refine congrArg P (funext fun b => Fin.ext ?_)
  show (k0_off2 t b + 1 * (ix3 0 w l : S1x256x256.Idx) b) = _
  rw [off2]
  fin_cases b
  · rfl
  · show kbase t + 1 * w.val = j.val; omega
  · show 0 + 1 * l.val = l.val; omega

/-- One head's 64 lanes of a plane. -/
def headOf (P : Vec Ideal S1x2048x256 .bf16) (h : Fin 4) : Fin 2048 → Fin 64 → EReal :=
  fun i c => P (ix3 0 i ⟨h.val * 64 + c.val, by omega⟩)

/-- The rows that stack the heads' masked queries, times the keys: at a head's row, the head's own product. -/
theorem stacked (v79 : IVec S512x256 32) (v117 : FVec Ideal S512x1 .f32) (wq wk : BitVec 32)
    (qs : FVec Ideal S128x256 .bf16) (ks : Vec Ideal S1x256x256 .bf16) (h : Fin 4) (a : Fin 128) (w : Fin 256) :
    k0_pay4 k0_pay14 v79 v117 wq wk qs ks (ix2 ⟨h.val * 128 + a.val, by omega⟩ w)
      = Scalar.select (IntOp.cmpi CmpIPredicate.sle
          (IntOp.absi (IntOp.addi (v79 (ix2 ⟨h.val * 128 + a.val, by omega⟩ w)) (Scalar.subi wk wq))) (BitVec.ofNat 32 64))
        ((∑ c : Fin 64, qs (ix2 a ⟨h.val * 64 + c.val, by omega⟩) * ks (ix3 0 w ⟨h.val * 64 + c.val, by omega⟩))
            * Ideal.ofBits .f32 0x3E000000#32
          - v117 (ix2 ⟨h.val * 128 + a.val, by omega⟩ 0) * FloatOps.sitofp (F := Ideal) .f32
              (IntOp.absi (IntOp.addi (v79 (ix2 ⟨h.val * 128 + a.val, by omega⟩ w)) (Scalar.subi wk wq)))) ⊥ := by
  pointwise [k0_pay4]
  have hm (d : BitVec 32) : IntOp.muli (1#32) d = d := BitVec.one_mul _
  have hn : (Named.named κ "mask" 4048155338#32 : Ideal .f32) = ⊥ := rfl
  rw [hm, hn]
  congr 3
  simp only [lane_head]
  have key (l : Fin 256) (n : ℕ) (hn : n < 4) (b : Fin 128) (hb : h.val * 128 + a.val = n * 128 + b.val) :
      Scalar.select (IntOp.cmpi CmpIPredicate.eq (BitVec.ofNat 32 (l.val / 64)) (BitVec.ofNat 32 n)) (qs (ix2 b l)) 0
        = if l.val / 64 = h.val then qs (ix2 a l) else 0 := by
    obtain rfl : h.val = n := by omega
    obtain rfl : a = b := Fin.ext (by omega)
    rw [AttnMath.word_eq _ _ (by omega) (by omega), AttnMath.select_ite]
  refine (Finset.sum_congr rfl fun l _ => congrArg (· * ks (ix3 0 w l)) ?_ :
    _ = ∑ l : Fin 256, (if l.val / 64 = h.val then qs (ix2 a l) else 0) * ks (ix3 0 w l)).trans ?_
  · split_ifs
    all_goals first
      | exact key l 0 (by decide) _ (by simp only; omega)
      | exact key l 1 (by decide) _ (by simp only; omega)
      | exact key l 2 (by decide) _ (by simp only; omega)
      | exact key l 3 (by decide) _ (by simp only; omega)
  · refine AttnMath.sum_head h _ _ (fun c => ?_) fun l hl => ?_
    · rw [if_pos (by simp only; omega)]
    · rw [if_neg hl, zero_mul]

section
variable (Q K V : Vec Ideal S1x2048x256 .bf16) (t : Fin k0_t1_loop.trips) (h : Fin 4) (a : Fin 128)
  (i : Fin 2048) (hi : i.val = 128 * t.val + a.val)
include hi

/-- A trip's masked score at one row and one column. -/
theorem score_at (w : Fin 256) (j : Fin 2048) (hj : j.val = kbase t + w.val) :
    k0_pay4 k0_pay14 relCols rowSlope (wordQ t) (wordK t) (k0_pay2 (View.ld Q (rowsQ t))) (View.ld K (rowsK t))
        (ix2 ⟨h.val * 128 + a.val, by omega⟩ w)
      = if AttnMath.dist i j ≤ 64 then AttnMath.score (headOf Q h) (headOf K h) (AttnMath.slope h) i j else ⊥ := by
  have hd : AttnMath.dist i j < 65536 := by unfold AttnMath.dist; omega
  have hq (b : Fin 128) (l : Fin 256) : k0_pay2 (View.ld Q (rowsQ t)) (ix2 b l) = View.ld Q (rowsQ t) (ix3 0 b l) := by
    generalize View.ld Q (rowsQ t) = q
    pointwise [k0_pay2]
  have hw : IntOp.absi (IntOp.addi (relCols (ix2 ⟨h.val * 128 + a.val, by omega⟩ w)) (Scalar.subi (wordK t) (wordQ t)))
      = BitVec.ofNat 32 (AttnMath.dist i j) := by
    rw [rel_cols, word_k, word_q]
    have e : IntOp.addi (BitVec.ofNat 32 w.val - BitVec.ofNat 32 ((h.val * 128 + a.val) % 128))
        (Scalar.subi (BitVec.ofNat 32 (kbase t)) (BitVec.ofNat 32 (128 * t.val)))
        = BitVec.ofNat 32 j.val - BitVec.ofNat 32 i.val := by
      have : (h.val * 128 + a.val) % 128 = a.val := by omega
      rw [this, hj, hi, BitVec.ofNat_add, BitVec.ofNat_add]
      show _ - _ + (_ - _) = _
      apply BitVec.eq_of_toNat_eq
      simp only [BitVec.toNat_add, BitVec.toNat_sub, BitVec.toNat_ofNat]
      omega
    rw [e, AttnMath.word_abs _ _ (by omega) (by omega)]
    rfl
  rw [stacked, hw, row_slope, AttnMath.word_le _ 64 hd (by decide), AttnMath.select_ite]
  simp only [hq, ld_q Q t a _ i hi, ld_k K t w _ j hj]
  rfl

/-- A trip's row of masked scores holds every key its query attends to. -/
theorem isRow : AttnMath.IsRow (headOf Q h) (headOf K h) (AttnMath.slope h) i (kbase t) 0 fun w : Fin 256 =>
    k0_pay4 k0_pay14 relCols rowSlope (wordQ t) (wordK t) (k0_pay2 (View.ld Q (rowsQ t))) (View.ld K (rowsK t))
      (ix2 ⟨h.val * 128 + a.val, by omega⟩ w) where
  cover j hj := by
    have := AttnMath.mem_keys.mp hj
    unfold AttnMath.dist at this
    have ht : t.val < 16 := t.isLt
    unfold kbase
    omega
  hit w j he hj := by
    rw [score_at Q K t h a i hi w j (by omega), if_pos (AttnMath.mem_keys.mp hj)]
  miss w hw := by
    have hb : kbase t ≤ 1792 := Nat.min_le_right _ _
    rw [score_at Q K t h a i hi w ⟨kbase t + w.val, by omega⟩ rfl, if_neg fun hd => hw _ rfl (AttnMath.mem_keys.mpr hd)]

/-- A trip's greatest score of a row. -/
theorem max_at : tripMax k0_pay14 relCols rowSlope Q K t (ix2 ⟨h.val * 128 + a.val, by omega⟩ 0)
    = AttnMath.top (headOf Q h) (headOf K h) (AttnMath.slope h) i := by
  rw [← (isRow Q K t h a i hi).fold_max]
  unfold tripMax
  generalize View.ld Q (rowsQ t) = q, View.ld K (rowsK t) = k
  pointwise [k0_pay5]
  congr 1

/-- A trip's exponential at one row and one column. -/
theorem exp_at (w : Fin 256) : tripExp k0_pay14 relCols rowSlope Q K t (ix2 ⟨h.val * 128 + a.val, by omega⟩ w)
    = Ideal.exp (k0_pay4 k0_pay14 relCols rowSlope (wordQ t) (wordK t) (k0_pay2 (View.ld Q (rowsQ t))) (View.ld K (rowsK t))
      (ix2 ⟨h.val * 128 + a.val, by omega⟩ w) - AttnMath.top (headOf Q h) (headOf K h) (AttnMath.slope h) i) := by
  rw [← max_at Q K t h a i hi]
  unfold tripMax tripExp
  generalize View.ld Q (rowsQ t) = q, View.ld K (rowsK t) = k
  pointwise [k0_pay6]

variable (hQ : ∀ i c, AttnMath.IsReal (headOf Q h i c)) (hK : ∀ i c, AttnMath.IsReal (headOf K h i c))
include hQ hK

/-- A trip's sum of exponentials of a row. -/
theorem sum_at : k0_pay21 (tripExp k0_pay14 relCols rowSlope Q K t) (ix2 ⟨h.val * 128 + a.val, by omega⟩ 0)
    = AttnMath.den (headOf Q h) (headOf K h) (AttnMath.slope h) i := by
  rw [← (isRow Q K t h a i hi).sum_exp hQ hK (AttnMath.fin_slope h)]
  simp only [← exp_at Q K t h a i hi]
  generalize tripExp k0_pay14 relCols rowSlope Q K t = p
  pointwise [k0_pay21]

/-- A trip's weighted sum of the values at one lane, divided by the sum of exponentials. -/
theorem div_at (c : Fin 64) :
    Ideal.div (∑ w : Fin 256, tripExp k0_pay14 relCols rowSlope Q K t (ix2 ⟨h.val * 128 + a.val, by omega⟩ w)
        * k0_pay3 (View.ld V (rowsK t)) (ix2 w ⟨h.val * 64 + c.val, by omega⟩))
      (k0_pay21 (tripExp k0_pay14 relCols rowSlope Q K t) (ix2 ⟨h.val * 128 + a.val, by omega⟩ 0))
    = AttnMath.out (headOf Q h) (headOf K h) (headOf V h) (AttnMath.slope h) i c := by
  rw [sum_at Q K t h a i hi hQ hK]
  simp only [exp_at Q K t h a i hi]
  refine (isRow Q K t h a i hi).div_sum hQ hK (AttnMath.fin_slope h) c _ fun w j he => ?_
  refine Eq.trans ?_ (ld_k V t w _ j (by omega))
  generalize View.ld V (rowsK t) = v
  pointwise [k0_pay3]

/-- A trip's output at one query and one lane of a head. -/
theorem out_at (c : Fin 64) : tripOut k0_pay14 relCols rowSlope Q K V t (ix3 0 a ⟨h.val * 64 + c.val, by omega⟩)
    = AttnMath.out (headOf Q h) (headOf K h) (headOf V h) (AttnMath.slope h) i c := by
  rw [← div_at Q K V t h a i hi hQ hK c]
  unfold tripOut
  generalize View.ld V (rowsK t) = v
  generalize tripExp k0_pay14 relCols rowSlope Q K t = p
  have e : (h.val * 64 + c.val) / 64 = h.val := by omega
  pointwise [k0_pay25, k0_pay22, k0_pay23, k0_pay24]
  simp only [lane_head, e]
  fin_cases h <;> simp [Scalar.select, IntOp.cmpi]

/-- A trip's log-sum at one query, the same at every lane of a head. -/
theorem lse_at (c : Fin 64) : tripLse k0_pay14 relCols rowSlope Q K t (ix3 0 a ⟨h.val * 64 + c.val, by omega⟩)
    = AttnMath.lse (headOf Q h) (headOf K h) (AttnMath.slope h) i := by
  unfold AttnMath.lse
  rw [← sum_at Q K t h a i hi hQ hK, ← max_at Q K t h a i hi]
  unfold tripLse
  generalize tripExp k0_pay14 relCols rowSlope Q K t = p
  generalize tripMax k0_pay14 relCols rowSlope Q K t = m
  have e : (h.val * 64 + c.val) / 64 = h.val := by omega
  pointwise [k0_pay26, k0_pay22, k0_pay23, k0_pay24]
  simp only [lane_head, e]
  fin_cases h <;> simp [Scalar.select, IntOp.cmpi]
end

end Cert.Proof.Attn
-- ==== Proof.AttnBlocks.lean ====
/- The attention kernel's four result arrays on the extended reals: each is the layer's attention, or its
   log-sum of exponentials, at one half of the heads. -/
module

public import proofs.«01_k».proof.Proof.AttnTripValue
public import Idealize.ShloMosaic.Lib.StableHlo.ReadAt

@[expose] public section

set_option maxRecDepth 16384

noncomputable section

namespace Cert.Proof.Attn

open Idealize.ShloMosaic Idealize.ShloMosaic.TcCoe Idealize.SL.Sem
open Cert.KernelIdeal Cert.KernelIdeal.Gen

/-- A plane written in halves, read. -/
theorem halves (p q : Vec Ideal S1x2048x128 .bf16) (i : Fin 2048) (l : Fin 256) :
    View.canon (Val := Elt Ideal) (e := .bf16) [⟨rHi, p⟩, ⟨rLo, q⟩] (ix3 0 i l)
      = if h : l.val < 128 then q (ix3 0 i ⟨l.val, h⟩) else p (ix3 0 i ⟨l.val - 128, by omega⟩) := by
  canon_tiles x h
  · have e : ¬ l.val < 128 := by have : l.val = 128 + (x 2).val := h2; omega
    rw [dif_neg e]
    refine congrArg p (funext fun a => Fin.ext ?_)
    fin_cases a
    · exact h0.symm
    · exact h1.symm
    · show (x 2).val = l.val - 128
      have : l.val = 128 + (x 2).val := h2
      omega
  · have e : l.val < 128 := by have : l.val = (x 2).val := h2; omega
    rw [dif_pos e]
    refine congrArg q (funext fun a => Fin.ext ?_)
    fin_cases a
    · exact h0.symm
    · exact h1.symm
    · exact h2.symm

section
variable (x0 x1 : Vec Ideal S1x2048x128 .f32) (i : Fin 2048) (l : Fin 256)

/-- The plane of queries, read. -/
theorem plane_q : planeQ x0 x1 (ix3 0 i l)
    = if h : l.val < 128 then x0 (ix3 0 i ⟨l.val, h⟩) else x1 (ix3 0 i ⟨l.val - 128, by omega⟩) := by
  unfold planeQ
  rw [halves]
  pointwise [k0_pay7, k0_pay8]

/-- The plane of keys, read. -/
theorem plane_k : planeK x0 x1 (ix3 0 i l)
    = if h : l.val < 128 then x0 (ix3 0 i ⟨l.val, h⟩) else x1 (ix3 0 i ⟨l.val - 128, by omega⟩) := by
  unfold planeK
  rw [halves]
  pointwise [k0_pay9, k0_pay10]

/-- The plane of values, read. -/
theorem plane_v : planeV x0 x1 (ix3 0 i l)
    = if h : l.val < 128 then x0 (ix3 0 i ⟨l.val, h⟩) else x1 (ix3 0 i ⟨l.val - 128, by omega⟩) := by
  unfold planeV
  rw [halves]
  pointwise [k0_pay11, k0_pay12, k0_pay13]
end

section
variable (x0 x1 x2 x3 x4 x5 : Vec Ideal S1x2048x128 .f32) (i : Fin 2048) (l : Fin 128)

/-- The block of the outputs of the lower heads, read. -/
theorem out6_at : out6 x0 x1 x2 x3 x4 x5 (ix3 0 i l) = outPlane x0 x1 x2 x3 x4 x5 (ix3 0 i ⟨l.val, by omega⟩) := by
  unfold out6
  generalize outPlane x0 x1 x2 x3 x4 x5 = p
  frame_out
  pointwise [k0_pay27]

/-- The block of the outputs of the upper heads, read. -/
theorem out7_at : out7 x0 x1 x2 x3 x4 x5 (ix3 0 i l) = outPlane x0 x1 x2 x3 x4 x5 (ix3 0 i ⟨128 + l.val, by omega⟩) := by
  unfold out7
  generalize outPlane x0 x1 x2 x3 x4 x5 = p
  frame_out
  pointwise [k0_pay29]

/-- The block of the log-sums of the lower heads, read. -/
theorem out8_at : out8 x0 x1 x2 x3 (ix3 0 i l) = lsePlane x0 x1 x2 x3 (ix3 0 i ⟨l.val, by omega⟩) := by
  unfold out8
  generalize lsePlane x0 x1 x2 x3 = p
  frame_out
  pointwise [k0_pay28]

/-- The block of the log-sums of the upper heads, read. -/
theorem out9_at : out9 x0 x1 x2 x3 (ix3 0 i l) = lsePlane x0 x1 x2 x3 (ix3 0 i ⟨128 + l.val, by omega⟩) := by
  unfold out9
  generalize lsePlane x0 x1 x2 x3 = p
  frame_out
  pointwise [k0_pay1, k0_pay30]
end

variable (m : (ℓ : Loc nD τ sig) → Buf (Elt Ideal) ℓ)

/-- Where each window's block lies at point `t`. -/
theorem idx (t : Fin cfg0.N) :
    win0_0.index t = ![(grid0.coords t 0).val, 0, 2] ∧ win0_1.index t = ![(grid0.coords t 0).val, 0, 3]
    ∧ win0_2.index t = ![(grid0.coords t 0).val, 0, 8] ∧ win0_3.index t = ![(grid0.coords t 0).val, 0, 9]
    ∧ win0_4.index t = ![(grid0.coords t 0).val, 0, 14] ∧ win0_5.index t = ![(grid0.coords t 0).val, 0, 15]
    ∧ win0_6.index t = ![(grid0.coords t 0).val, 0, 0] ∧ win0_7.index t = ![(grid0.coords t 0).val, 0, 0]
    ∧ win0_8.index t = ![(grid0.coords t 0).val, 0, 0] ∧ win0_9.index t = ![(grid0.coords t 0).val, 0, 0] := by
  revert t
  decide +kernel

/-- The sequence a grid point works on. -/
abbrev seqOf (t : Fin cfg0.N) : Fin 16 := ⟨(grid0.coords t 0).val, (grid0.coords t 0).isLt⟩

section
variable (c : Dev nD) (t : Fin cfg0.N) (i : Fin 2048)

theorem blk0 (l : Fin 128) : iblk m c 0 t (ix3 0 i l)
    = m ((c : Thread nD τ).loc main_arg0) (ix3 (seqOf t) i ⟨256 + l.val, by omega⟩) := by
  blk_simp [iblk, (idx t).1]
  unfold V
  after_reads_at
  blk_ext [(idx t).1]

theorem blk1 (l : Fin 128) : iblk m c 1 t (ix3 0 i l)
    = m ((c : Thread nD τ).loc main_arg0) (ix3 (seqOf t) i ⟨384 + l.val, by omega⟩) := by
  blk_simp [iblk, (idx t).2.1]
  unfold V
  after_reads_at
  blk_ext [(idx t).2.1]

theorem blk2 (l : Fin 128) : iblk m c 2 t (ix3 0 i l)
    = m ((c : Thread nD τ).loc main_arg0) (ix3 (seqOf t) i ⟨1024 + l.val, by omega⟩) := by
  blk_simp [iblk, (idx t).2.2.1]
  unfold V
  after_reads_at
  blk_ext [(idx t).2.2.1]

theorem blk3 (l : Fin 128) : iblk m c 3 t (ix3 0 i l)
    = m ((c : Thread nD τ).loc main_arg0) (ix3 (seqOf t) i ⟨1152 + l.val, by omega⟩) := by
  blk_simp [iblk, (idx t).2.2.2.1]
  unfold V
  after_reads_at
  blk_ext [(idx t).2.2.2.1]

theorem blk4 (l : Fin 128) : iblk m c 4 t (ix3 0 i l)
    = m ((c : Thread nD τ).loc main_arg0) (ix3 (seqOf t) i ⟨1792 + l.val, by omega⟩) := by
  blk_simp [iblk, (idx t).2.2.2.2.1]
  unfold V
  after_reads_at
  blk_ext [(idx t).2.2.2.2.1]

theorem blk5 (l : Fin 128) : iblk m c 5 t (ix3 0 i l)
    = m ((c : Thread nD τ).loc main_arg0) (ix3 (seqOf t) i ⟨1920 + l.val, by omega⟩) := by
  blk_simp [iblk, (idx t).2.2.2.2.2.1]
  unfold V
  after_reads_at
  blk_ext [(idx t).2.2.2.2.2.1]

variable (h : Fin 4)

/-- A head's lanes of the plane of queries are its lanes of the array. -/
theorem head_q : headOf (planeQ (iblk m c 0 t) (iblk m c 1 t)) h
    = AttnMath.qOf (m ((c : Thread nD τ).loc main_arg0)) (seqOf t) h := by
  funext i l
  unfold headOf AttnMath.qOf
  rw [plane_q]
  split
  · exact blk0 m c t i _
  · rename_i hn
    have hn' : ¬ h.val * 64 + l.val < 128 := hn
    exact (blk1 m c t i _).trans <| congrArg (fun n => m ((c : Thread nD τ).loc main_arg0) (ix3 (seqOf t) i n)) (Fin.ext (by simp only; omega))

/-- A head's lanes of the plane of keys are its lanes of the array. -/
theorem head_k : headOf (planeK (iblk m c 2 t) (iblk m c 3 t)) h
    = AttnMath.kOf (m ((c : Thread nD τ).loc main_arg0)) (seqOf t) h := by
  funext i l
  unfold headOf AttnMath.kOf
  rw [plane_k]
  split
  · exact blk2 m c t i _
  · rename_i hn
    have hn' : ¬ h.val * 64 + l.val < 128 := hn
    exact (blk3 m c t i _).trans <| congrArg (fun n => m ((c : Thread nD τ).loc main_arg0) (ix3 (seqOf t) i n)) (Fin.ext (by simp only; omega))

/-- A head's lanes of the plane of values are its lanes of the array. -/
theorem head_v : headOf (planeV (iblk m c 4 t) (iblk m c 5 t)) h
    = AttnMath.vOf (m ((c : Thread nD τ).loc main_arg0)) (seqOf t) h := by
  funext i l
  unfold headOf AttnMath.vOf
  rw [plane_v]
  split
  · exact blk4 m c t i _
  · rename_i hn
    have hn' : ¬ h.val * 64 + l.val < 128 := hn
    exact (blk5 m c t i _).trans <| congrArg (fun n => m ((c : Thread nD τ).loc main_arg0) (ix3 (seqOf t) i n)) (Fin.ext (by simp only; omega))

variable (hX : AttnMath.Finite (m ((c : Thread nD τ).loc main_arg0)))
include hX

/-- The plane of outputs at a point is the attention of the point's sequence. -/
theorem outPlane_at (l : Fin 256) :
    outPlane (iblk m c 0 t) (iblk m c 1 t) (iblk m c 2 t) (iblk m c 3 t) (iblk m c 4 t) (iblk m c 5 t) (ix3 0 i l)
      = AttnMath.attnOut (m ((c : Thread nD τ).loc main_arg0)) (seqOf t) i l := by
  unfold AttnMath.attnOut
  rw [← head_q m c t, ← head_k m c t, ← head_v m c t]
  refine Eq.trans ?_ (out_at _ _ _ ⟨i.val / 128, by have : k0_t1_loop.trips = 16 := by decide
                                                    omega⟩ (AttnMath.headIx l) ⟨i.val % 128, by omega⟩ i
    (by simp only; omega) (fun j d => ?_) (fun j d => ?_) (AttnMath.laneIx l))
  · rw [← AttnMath.lane_eq l]; rfl
  · rw [head_q]; exact (hX _ _ _ _).1
  · rw [head_k]; exact (hX _ _ _ _).2

/-- The plane of log-sums at a point is the attention's of the point's sequence. -/
theorem lsePlane_at (l : Fin 256) :
    lsePlane (iblk m c 0 t) (iblk m c 1 t) (iblk m c 2 t) (iblk m c 3 t) (ix3 0 i l)
      = AttnMath.attnLse (m ((c : Thread nD τ).loc main_arg0)) (seqOf t) i l := by
  unfold AttnMath.attnLse
  rw [← head_q m c t, ← head_k m c t]
  refine Eq.trans ?_ (lse_at _ _ ⟨i.val / 128, by have : k0_t1_loop.trips = 16 := by decide
                                                  omega⟩ (AttnMath.headIx l) ⟨i.val % 128, by omega⟩ i
    (by simp only; omega) (fun j d => ?_) (fun j d => ?_) (AttnMath.laneIx l))
  · rw [← AttnMath.lane_eq l]; rfl
  · rw [head_q]; exact (hX _ _ _ _).1
  · rw [head_k]; exact (hX _ _ _ _).2
end

variable (c : Dev nD) (hX : AttnMath.Finite (m ((c : Thread nD τ).loc main_arg0)))
include hX

/-- The array of the outputs of the lower heads after the run. -/
theorem final6 : (dats m 0 c).arrAt 6 cfg0.N = fun y : S16x2048x128.Idx =>
    AttnMath.attnOut (m ((c : Thread nD τ).loc main_arg0)) (y 0) (y 1) (AttnMath.lowLane (y 2)) := by
  refine (dats m 0 c).arrAt_eq_of_covers 6 _ (by decide +kernel) fun t hf y => ?_
  blk_simp
  rw [after0_6]
  idx_vars y
  obtain rfl : y0 = 0 := Subsingleton.elim _ _
  have e0 : ((View.whole main_v0_0).slice (win0_6.rect t)).emb (ix3 0 y1 y2) 0 = seqOf t := by
    apply Fin.ext; blk_simp [(idx t).2.2.2.2.2.2.1]; rfl
  have e1 : ((View.whole main_v0_0).slice (win0_6.rect t)).emb (ix3 0 y1 y2) 1 = y1 := by
    apply Fin.ext; blk_simp [(idx t).2.2.2.2.2.2.1]
  rw [out6_at, outPlane_at m c t y1 hX, e0, e1]
  refine congrArg (AttnMath.attnOut (m ((c : Thread nD τ).loc main_arg0)) (seqOf t) y1) (Fin.ext ?_)
  simp [(idx t).2.2.2.2.2.2.1]

/-- The array of the outputs of the upper heads after the run. -/
theorem final7 : (dats m 0 c).arrAt 7 cfg0.N = fun y : S16x2048x128.Idx =>
    AttnMath.attnOut (m ((c : Thread nD τ).loc main_arg0)) (y 0) (y 1) (AttnMath.highLane (y 2)) := by
  refine (dats m 0 c).arrAt_eq_of_covers 7 _ (by decide +kernel) fun t hf y => ?_
  blk_simp
  rw [after0_7]
  idx_vars y
  obtain rfl : y0 = 0 := Subsingleton.elim _ _
  have e0 : ((View.whole main_v0_1).slice (win0_7.rect t)).emb (ix3 0 y1 y2) 0 = seqOf t := by
    apply Fin.ext; blk_simp [(idx t).2.2.2.2.2.2.2.1]; rfl
  have e1 : ((View.whole main_v0_1).slice (win0_7.rect t)).emb (ix3 0 y1 y2) 1 = y1 := by
    apply Fin.ext; blk_simp [(idx t).2.2.2.2.2.2.2.1]
  rw [out7_at, outPlane_at m c t y1 hX, e0, e1]
  refine congrArg (AttnMath.attnOut (m ((c : Thread nD τ).loc main_arg0)) (seqOf t) y1) (Fin.ext ?_)
  simp [(idx t).2.2.2.2.2.2.2.1]

/-- The array of the log-sums of the lower heads after the run. -/
theorem final8 : (dats m 0 c).arrAt 8 cfg0.N = fun y : S16x2048x128.Idx =>
    AttnMath.attnLse (m ((c : Thread nD τ).loc main_arg0)) (y 0) (y 1) (AttnMath.lowLane (y 2)) := by
  refine (dats m 0 c).arrAt_eq_of_covers 8 _ (by decide +kernel) fun t hf y => ?_
  blk_simp
  rw [after0_8]
  idx_vars y
  obtain rfl : y0 = 0 := Subsingleton.elim _ _
  have e0 : ((View.whole main_v0_2).slice (win0_8.rect t)).emb (ix3 0 y1 y2) 0 = seqOf t := by
    apply Fin.ext; blk_simp [(idx t).2.2.2.2.2.2.2.2.1]; rfl
  have e1 : ((View.whole main_v0_2).slice (win0_8.rect t)).emb (ix3 0 y1 y2) 1 = y1 := by
    apply Fin.ext; blk_simp [(idx t).2.2.2.2.2.2.2.2.1]
  rw [out8_at, lsePlane_at m c t y1 hX, e0, e1]
  refine congrArg (AttnMath.attnLse (m ((c : Thread nD τ).loc main_arg0)) (seqOf t) y1) (Fin.ext ?_)
  simp [(idx t).2.2.2.2.2.2.2.2.1]

/-- The array of the log-sums of the upper heads after the run. -/
theorem final9 : (dats m 0 c).arrAt 9 cfg0.N = fun y : S16x2048x128.Idx =>
    AttnMath.attnLse (m ((c : Thread nD τ).loc main_arg0)) (y 0) (y 1) (AttnMath.highLane (y 2)) := by
  refine (dats m 0 c).arrAt_eq_of_covers 9 _ (by decide +kernel) fun t hf y => ?_
  blk_simp
  rw [after0_9]
  idx_vars y
  obtain rfl : y0 = 0 := Subsingleton.elim _ _
  have e0 : ((View.whole main_v0_3).slice (win0_9.rect t)).emb (ix3 0 y1 y2) 0 = seqOf t := by
    apply Fin.ext; blk_simp [(idx t).2.2.2.2.2.2.2.2.2]; rfl
  have e1 : ((View.whole main_v0_3).slice (win0_9.rect t)).emb (ix3 0 y1 y2) 1 = y1 := by
    apply Fin.ext; blk_simp [(idx t).2.2.2.2.2.2.2.2.2]
  rw [out9_at, lsePlane_at m c t y1 hX, e0, e1]
  refine congrArg (AttnMath.attnLse (m ((c : Thread nD τ).loc main_arg0)) (seqOf t) y1) (Fin.ext ?_)
  simp [(idx t).2.2.2.2.2.2.2.2.2]

end Cert.Proof.Attn

end
-- ==== Proof.AttnRef.lean ====
module
public import proofs.«01_k».proof.Proof.Gen.ReferenceIdeal.Read
public import proofs.«01_k».proof.Proof.AttnMath
public import Idealize.ShloMosaic.Lib.Pointwise

/-! The reference's attention: its operations read at an index, up to the attended row's scores, their greatest, the
denominator and the weighted values. -/

@[expose] public section

set_option maxRecDepth 16384

noncomputable section

namespace Cert.Proof.AttnRef

open Idealize.ShloMosaic Idealize.ShloMosaic.TcCoe Idealize.SL.Sem
open Cert.ReferenceIdeal Cert.ReferenceIdeal.Gen Cert.ReferenceIdeal.Read Cert.Proof.AttnMath

variable (x : Proj) (b : Fin 16) (n : Fin 32) (a : Fin 64) (w : Fin 192) (h : Fin 4) (c : Fin 64)

/-- The query at place `a` of block `n`. -/
abbrev at64 : Fin 2048 := ⟨n.val * 64 + a.val, by omega⟩

/-- Two indices of rank three with the same coordinates. -/
theorem ix3_congr {p q r : ℕ} {i i' : Fin p} {j j' : Fin q} {k k' : Fin r} (hi : i.val = i'.val) (hj : j.val = j'.val)
    (hk : k.val = k'.val) : ix3 i j k = ix3 i' j' k' := by
  rw [Fin.ext hi, Fin.ext hj, Fin.ext hk]

/-- The blocked queries. -/
theorem queries_at : val_main_v16 (F := Ideal) x (ix6 b 0 n a h c) = qOf x b h (at64 n a) c := by
  pointwise [val_main_v16, val_main_v15, val_main_v14, val_main_v6, val_main_v1, val_main_v0]
  rfl

/-- The windowed keys, at a place of the window that is a key of the sequence. -/
theorem keys_at (j : Fin 2048) (hj : j.val + 64 = n.val * 64 + w.val) :
    val_main_v24 (F := Ideal) x (ix6 b 0 n w h c) = kOf x b h j c := by
  pointwise [val_main_v24, val_main_v21, val_main_v22, val_main_v23, val_main_v20, val_main_v19, val_main_v18, val_main_v17, val_main_v7, val_main_v3, val_main_v2, val_main_call0_v0, val_main_c]
  unfold kOf
  split_ifs <;> first | omega | exact congrArg x (ix3_congr rfl (by simp only; omega) (by simp only))

/-- The windowed values, at a place of the window that is a key of the sequence. -/
theorem values_at (j : Fin 2048) (hj : j.val + 64 = n.val * 64 + w.val) :
    val_main_v32 (F := Ideal) x (ix6 b 0 n w h c) = vOf x b h j c := by
  pointwise [val_main_v32, val_main_v29, val_main_v30, val_main_v31, val_main_v28, val_main_v27, val_main_v26, val_main_v25, val_main_v8, val_main_v5, val_main_v4, val_main_call1_v0, val_main_c_3]
  unfold vOf
  split_ifs <;> first | omega | exact congrArg x (ix3_congr rfl (by simp only; omega) (by simp only))

/-- The heads' slopes. -/
theorem slopes_at : val_main_v13 (F := Ideal) (ix1 h) = slope h := by
  pointwise [val_main_v13, val_main_v12, val_main_v11, val_main_v10, val_main_v9, val_main_cst, val_main_cst_0, val_main_cst_1, val_main_cst_2]
  fin_cases h <;> rfl

/-- The scaled products of queries and keys. -/
theorem products_at : val_main_v35 (F := Ideal) x (ix6 b 0 n h a w)
    = (∑ c, val_main_v16 (F := Ideal) x (ix6 b 0 n a h c) * val_main_v24 (F := Ideal) x (ix6 b 0 n w h c)) * Ideal.ofBits .f32 0x3E000000#32 := by
  pointwise [val_main_v35, val_main_v33, val_main_v34, val_main_cst_4]
  try rfl

/-- The distance's word: the window's place less the query's. -/
theorem relative_at : val_main_v60 (F := Ideal) (ix3 n a w)
    = BitVec.ofNat 32 (n.val * 64 + w.val) - BitVec.ofNat 32 (n.val * 64 + a.val + 64) := by
  pointwise [val_main_v60, val_main_v59, val_main_v58, val_main_v57, val_main_v56, val_main_v55, val_main_v54, val_main_v53, val_main_v52, val_main_v51, val_main_v50, val_main_v49, val_main_v48, val_main_v47, val_main_v46, val_main_v45, val_main_v44, val_main_v43, val_main_v42, val_main_v41, val_main_v40, val_main_v39, val_main_v38, val_main_v37, val_main_v36, val_main_c_5, val_main_c_6, val_main_c_7]
  apply BitVec.eq_of_toNat_eq
  simp only [IntOp.subi, IntOp.addi, IntOp.muli, BitVec.toNat_sub, BitVec.toNat_add, BitVec.toNat_mul, BitVec.toNat_ofNat]
  omega

/-- The attended places of the window. -/
theorem attended_at : val_main_v73 (F := Ideal) (ix3 n a w)
    = if ((n.val * 64 + a.val + 64 - (n.val * 64 + w.val)) + (n.val * 64 + w.val - (n.val * 64 + a.val + 64)) ≤ 64
        ∧ 64 ≤ n.val * 64 + w.val) ∧ n.val * 64 + w.val < 2112 then 1#1 else 0#1 := by
  have e := relative_at n a w
  generalize hz : val_main_v60 (F := Ideal) = z at e
  pointwise [val_main_v73, val_main_v72, val_main_v71, val_main_v70, val_main_v69, val_main_v68, val_main_v67, val_main_v66, val_main_v65, val_main_v64, val_main_v63, val_main_v62, val_main_v61, val_main_c_8, val_main_c_9, val_main_c_10, val_main_v55, val_main_v54, val_main_v53, val_main_v52, val_main_v51, val_main_v50, val_main_v49, val_main_v48, val_main_v47, val_main_v46, val_main_v45, val_main_c_6, val_main_c_7]
  have hk : IntOp.addi (IntOp.subi (IntOp.muli (BitVec.ofNat 32 n.val) 64#32) 64#32) (BitVec.ofNat 32 w.val)
      = BitVec.ofNat 32 (n.val * 64 + w.val) - 64#32 := by
    apply BitVec.eq_of_toNat_eq
    simp only [IntOp.subi, IntOp.addi, IntOp.muli, BitVec.toNat_sub, BitVec.toNat_add, BitVec.toNat_mul, BitVec.toNat_ofNat]
    omega
  rw [hz, e, hk, word_abs _ _ (by omega) (by omega), word_le _ 64 (by omega) (by omega), word_sub_ge _ (by omega),
    word_sub_lt _ (by omega), andi_ite, andi_ite]

/-- The masked score at a place of the window. -/
theorem masked_at : val_main_v88 (F := Ideal) x (ix6 b 0 n h a w)
    = Scalar.select (val_main_v73 (F := Ideal) (ix3 n a w))
        (val_main_v35 (F := Ideal) x (ix6 b 0 n h a w)
          + -val_main_v13 (F := Ideal) (ix1 h) * FloatOps.sitofp (F := Ideal) .f32 (IntOp.absi (val_main_v60 (F := Ideal) (ix3 n a w))))
        (⊥ : EReal) := by
  pointwise [val_main_v88, val_main_v87, val_main_v86, val_main_v85, val_main_v84, val_main_v83, val_main_v82, val_main_v81, val_main_v80, val_main_v79, val_main_v78, val_main_v77, val_main_v76, val_main_v75, val_main_v74, val_main_c_11, val_main_call2_v0, val_main_call2_v1, val_main_call2_v2, val_main_cst_12]
  have h1 : IntOp.muli (1#32) (IntOp.absi (val_main_v60 (F := Ideal) (ix3 n a w))) = IntOp.absi (val_main_v60 (F := Ideal) (ix3 n a w)) := by
    generalize IntOp.absi (val_main_v60 (F := Ideal) (ix3 n a w)) = z
    exact BitVec.one_mul z
  have h2 : (id (constant (F := Ideal) S_ FTy.f32 4286578688#32) ix0 : EReal) = ⊥ := by
    show Ideal.ofBits .f32 4286578688#32 = ⊥
    simp [Ideal.ofBits, Ideal.ieee]
  rw [h1, h2]

/-- The window's row of masked scores holds every key the query attends to. -/
theorem isRow : IsRow (qOf x b h) (kOf x b h) (slope h) (at64 n a) (n.val * 64) 64
    (fun w : Fin 192 => val_main_v88 (F := Ideal) x (ix6 b 0 n h a w)) where
  cover j hj := by
    rw [mem_keys] at hj; unfold AttnMath.dist at hj; simp only at hj; omega
  hit w j hj hm := by
    rw [mem_keys] at hm; unfold AttnMath.dist at hm; simp only at hm
    show val_main_v88 (F := Ideal) x (ix6 b 0 n h a w) = _
    rw [masked_at, attended_at, if_pos (by omega), slopes_at, products_at, relative_at, word_abs _ _ (by omega) (by omega)]
    rw [show ∀ p q : EReal, Scalar.select 1#1 p q = p from fun _ _ => rfl]
    simp only [queries_at, keys_at x b n w h _ j hj]
    unfold score AttnMath.dist
    rw [sub_eq_add_neg, ← EReal.neg_mul]
    refine congrArg (_ + ·) (congrArg (fun d : ℕ => -AttnMath.slope h * FloatOps.sitofp (F := Ideal) .f32 (BitVec.ofNat 32 d)) ?_)
    simp only
    omega
  miss w hm := by
    show val_main_v88 (F := Ideal) x (ix6 b 0 n h a w) = _
    rw [masked_at, attended_at, if_neg]
    · rfl
    · intro hp
      refine hm ⟨n.val * 64 + w.val - 64, by omega⟩ (by simp only; omega) ?_
      rw [mem_keys]; unfold AttnMath.dist; simp only; omega

/-- The row's greatest score. -/
theorem top_at : val_main_v89 (F := Ideal) x (ix5 b 0 n h a) = top (qOf x b h) (kOf x b h) (slope h) (at64 n a) := by
  have r := (isRow x b n a h).fold_max
  unfold val_main_v89
  generalize hz : val_main_v88 (F := Ideal) x = z
  simp only [hz] at r
  refine (Host.reduce_eq_fold_single (FloatOps.maximumf (F := Ideal) (φ := .f32)) z _ reducesTo_S16x1x32x4x64x192_S16x1x32x4x64_d5 (by decide) h_S_ _).trans ?_
  rw [← r]
  have hb : val_main_cst_13 (F := Ideal) (Shape.Idx.first h_S_) = (⊥ : EReal) := by
    show Ideal.ofBits .f32 0xFF800000#32 = ⊥
    simp [Ideal.ofBits, Ideal.ieee]
  rw [hb]
  refine congrArg (fun f => Finset.fold max (⊥ : EReal) f (Finset.univ : Finset (Fin 192))) (funext fun w => congrArg z ?_)
  exact funext fun e => Fin.ext (by match e with | ⟨0, _⟩ => rfl | ⟨1, _⟩ => rfl | ⟨2, _⟩ => rfl | ⟨3, _⟩ => rfl | ⟨4, _⟩ => rfl | ⟨5, _⟩ => rfl)

/-- The exponential of a score less the greatest. -/
theorem exp_at : val_main_v93 (F := Ideal) x (ix6 b 0 n h a w)
    = Ideal.exp (val_main_v88 (F := Ideal) x (ix6 b 0 n h a w) - val_main_v89 (F := Ideal) x (ix5 b 0 n h a)) := by
  pointwise [val_main_v93, val_main_v92, val_main_v91, val_main_v90]
  try rfl

variable (hX : Finite x)
include hX

/-- The denominator. -/
theorem den_at : val_main_v94 (F := Ideal) x (ix5 b 0 n h a) = den (qOf x b h) (kOf x b h) (slope h) (at64 n a) := by
  have r := (isRow x b n a h).sum_exp (fun i c => (hX b h i c).1) (fun i c => (hX b h i c).2) (fin_slope h)
  rw [val_main_v94_apply]
  have h0 : val_main_cst_14 (F := Ideal) (Shape.Idx.first h_S_) = (0 : EReal) := by
    show Ideal.ofBits .f32 0#32 = 0
    simp [Ideal.ofBits, Ideal.ieee]
  rw [h0, zero_add, ← r]
  refine Finset.sum_congr rfl fun w _ => ?_
  have e : idx_main_v94 (ix5 b 0 n h a) w = ix6 b 0 n h a w :=
    funext fun e => Fin.ext (by match e with | ⟨0, _⟩ => rfl | ⟨1, _⟩ => rfl | ⟨2, _⟩ => rfl | ⟨3, _⟩ => rfl | ⟨4, _⟩ => rfl | ⟨5, _⟩ => rfl)
  rw [e, exp_at, top_at]

/-- The attention's output at a query, a head and a lane of it. -/
theorem out_at : val_main_v101 (F := Ideal) x (ix6 b 0 n h c a)
    = out (qOf x b h) (kOf x b h) (vOf x b h) (slope h) (at64 n a) c := by
  have r := (isRow x b n a h).sum_div (v := vOf x b h) (fun i c => (hX b h i c).1) (fun i c => (hX b h i c).2) (fin_slope h) c
    (fun w => val_main_v32 (F := Ideal) x (ix6 b 0 n w h c)) (fun w j hj => values_at x b n w h c j (by rw [hj]))
  rw [← r]
  simp only [← den_at x b n a h hX, ← top_at x b n a h]
  pointwise [val_main_v101, val_main_v100, val_main_v99, val_main_v95, val_main_v93, val_main_v92, val_main_v91, val_main_v90]
  exact Finset.sum_congr rfl fun w _ => mul_comm _ _

end Cert.Proof.AttnRef
-- ==== Proof.AttnRefLayout.lean ====
module
public import proofs.«01_k».proof.Proof.AttnRef

/-! The reference's attention: from blocks and heads to the four results' rows and lanes. -/

@[expose] public section

set_option maxRecDepth 16384

noncomputable section

namespace Cert.Proof.AttnRef

open Idealize.ShloMosaic Idealize.ShloMosaic.TcCoe Idealize.SL.Sem
open Cert.ReferenceIdeal Cert.ReferenceIdeal.Gen Cert.ReferenceIdeal.Read Cert.Proof.AttnMath

variable (x : Proj) (b : Fin 16) (i : Fin 2048) (l : Fin 128) (h : Fin 4)

/-- The block a query lies in. -/
abbrev blockIx : Fin 32 := ⟨i.val / 64, by omega⟩

/-- A query's place in its block. -/
abbrev placeIx : Fin 64 := ⟨i.val % 64, by omega⟩

theorem at64_split : at64 (blockIx i) (placeIx i) = i := Fin.ext (by simp only; omega)

/-- The lower heads' result, from the blocked output. -/
theorem low_out : val_main_v113 (F := Ideal) x (ix3 b i l)
    = val_main_v101 (F := Ideal) x (ix6 b 0 (blockIx i) (headIx (lowLane l)) (laneIx (lowLane l)) (placeIx i)) := by
  pointwise [val_main_v113, val_main_v110, val_main_v105, val_main_v104, val_main_v103, val_main_v102]
  try rfl

/-- The upper heads' result, from the blocked output. -/
theorem high_out : val_main_v114 (F := Ideal) x (ix3 b i l)
    = val_main_v101 (F := Ideal) x (ix6 b 0 (blockIx i) (headIx (highLane l)) (laneIx (highLane l)) (placeIx i)) := by
  pointwise [val_main_v114, val_main_v110, val_main_v105, val_main_v104, val_main_v103, val_main_v102]
  try rfl

section
variable (n : Fin 32) (a : Fin 64)

/-- The logarithm of the denominator over the greatest score. -/
theorem lse_block : val_main_v97 (F := Ideal) x (ix6 b 0 n h a 0)
    = val_main_v89 (F := Ideal) x (ix5 b 0 n h a) + Ideal.log (val_main_v94 (F := Ideal) x (ix5 b 0 n h a)) := by
  rw [val_main_v97_apply, val_main_v96_apply, val_main_v95_apply, val_main_v90_apply]
  have e : idx_main_v90 (ix6 b 0 n h a 0) = ix5 b 0 n h a :=
    funext fun e => Fin.ext (by match e with | ⟨0, _⟩ => rfl | ⟨1, _⟩ => rfl | ⟨2, _⟩ => rfl | ⟨3, _⟩ => rfl | ⟨4, _⟩ => rfl)
  have e' : idx_main_v95 (ix6 b 0 n h a 0) = ix5 b 0 n h a :=
    funext fun e => Fin.ext (by match e with | ⟨0, _⟩ => rfl | ⟨1, _⟩ => rfl | ⟨2, _⟩ => rfl | ⟨3, _⟩ => rfl | ⟨4, _⟩ => rfl)
  rw [e, e']
  generalize val_main_v94 (F := Ideal) x (ix5 b 0 n h a) = p
  generalize val_main_v89 (F := Ideal) x (ix5 b 0 n h a) = q
  rfl

/-- The same, its last axis of one dropped. -/
theorem lse_drop : val_main_v98 (F := Ideal) x (ix5 b 0 n h a) = val_main_v97 (F := Ideal) x (ix6 b 0 n h a 0) := by
  unfold val_main_v98
  generalize val_main_v97 (F := Ideal) x = y
  refine shapeCast_apply y _ (ix5 b 0 n h a) (ix6 b 0 n h a 0) ?_
  rw [Shape.rowMajor_val_six, Shape.rowMajor_val_five]
  show (((((b.val * 1 + 0) * 32 + n.val) * 4 + h.val) * 64 + a.val) * 1 + 0 : ℕ)
    = ((((b.val * 1 + 0) * 32 + n.val) * 4 + h.val) * 64 + a.val)
  omega
end

/-- The same, by rows. -/
theorem lse_rows : val_main_v107 (F := Ideal) x (ix4 b 0 i h) = val_main_v98 (F := Ideal) x (ix5 b 0 (blockIx i) h (placeIx i)) := by
  rw [val_main_v107_apply, val_main_v106_apply]
  refine congrArg (val_main_v98 (F := Ideal) x) (funext fun e => Fin.ext ?_)
  match e with
  | ⟨0, _⟩ => show (((b.val * 1 + 0) * 2048 + i.val) * 4 + h.val) / 8192 = b.val; omega
  | ⟨1, _⟩ => rfl
  | ⟨2, _⟩ => show (((b.val * 1 + 0) * 2048 + i.val) * 4 + h.val) / 256 % 32 = i.val / 64; omega
  | ⟨3, _⟩ => show (((b.val * 1 + 0) * 2048 + i.val) * 4 + h.val) % 4 = h.val; omega
  | ⟨4, _⟩ => show (((b.val * 1 + 0) * 2048 + i.val) * 4 + h.val) / 4 % 64 = i.val % 64; omega

/-- The same, by sequence, row and head. -/
theorem lse_heads : val_main_v109 (F := Ideal) x (ix3 b i h) = val_main_v107 (F := Ideal) x (ix4 b 0 i h) := by
  rw [val_main_v109_apply, val_main_v108_apply]
  refine congrArg (val_main_v107 (F := Ideal) x) (funext fun e => Fin.ext ?_)
  match e with
  | ⟨0, _⟩ => show ((b.val * 2048 + i.val) * 4 + h.val) / 8192 = b.val; omega
  | ⟨1, _⟩ => rfl
  | ⟨2, _⟩ => show ((b.val * 2048 + i.val) * 4 + h.val) / 4 % 2048 = i.val; omega
  | ⟨3, _⟩ => show ((b.val * 2048 + i.val) * 4 + h.val) % 4 = h.val; omega

/-- The same, repeated over the lanes of a head. -/
theorem lse_lanes (l : Fin 256) : val_main_v112 (F := Ideal) x (ix3 b i l) = val_main_v109 (F := Ideal) x (ix3 b i (headIx l)) := by
  unfold val_main_v112 val_main_v111
  generalize val_main_v109 (F := Ideal) x = y
  pointwise

/-- The lower heads' lanes. -/
theorem low_lse : val_main_v115 (F := Ideal) x (ix3 b i l) = val_main_v112 (F := Ideal) x (ix3 b i (lowLane l)) := by
  unfold val_main_v115
  generalize val_main_v112 (F := Ideal) x = y
  pointwise

/-- The upper heads' lanes. -/
theorem high_lse : val_main_v116 (F := Ideal) x (ix3 b i l) = val_main_v112 (F := Ideal) x (ix3 b i (highLane l)) := by
  unfold val_main_v116
  generalize val_main_v112 (F := Ideal) x = y
  pointwise

variable (hX : Finite x)
include hX

/-- The blocked output, by lanes. -/
theorem out_lane (l : Fin 256) : val_main_v101 (F := Ideal) x (ix6 b 0 (blockIx i) (headIx l) (laneIx l) (placeIx i)) = attnOut x b i l := by
  rw [out_at x b _ _ _ _ hX, at64_split]; rfl

/-- The log-sum of exponentials, by lanes. -/
theorem lse_lane (l : Fin 256) : val_main_v112 (F := Ideal) x (ix3 b i l) = attnLse x b i l := by
  rw [lse_lanes, lse_heads, lse_rows, lse_drop, lse_block, top_at, den_at x b _ _ _ hX, at64_split]; rfl

/-- The first result. -/
theorem result0 : val_main_v113 (F := Ideal) x = fun y => attnOut x (y 0) (y 1) (lowLane (y 2)) := by
  funext y; idx_vars y
  exact (low_out x _ _ _).trans (out_lane x _ _ hX _)

/-- The second result. -/
theorem result1 : val_main_v114 (F := Ideal) x = fun y => attnOut x (y 0) (y 1) (highLane (y 2)) := by
  funext y; idx_vars y
  exact (high_out x _ _ _).trans (out_lane x _ _ hX _)

/-- The third result. -/
theorem result2 : val_main_v115 (F := Ideal) x = fun y => attnLse x (y 0) (y 1) (lowLane (y 2)) := by
  funext y; idx_vars y
  exact (low_lse x _ _ _).trans (lse_lane x _ _ hX _)

/-- The fourth result. -/
theorem result3 : val_main_v116 (F := Ideal) x = fun y => attnLse x (y 0) (y 1) (highLane (y 2)) := by
  funext y; idx_vars y
  exact (high_lse x _ _ _).trans (lse_lane x _ _ hX _)

end Cert.Proof.AttnRef
-- ==== Proof.Attn.lean ====
/- The attention: what the kernel leaves in its four results is what the reference leaves in its four, whenever
   every query and every key is a real number; the kernel's and the reference's arguments end as they were. -/
module

public import proofs.«01_k».proof.Defs
public import proofs.«01_k».proof.Proof.AttnBlocks
public import proofs.«01_k».proof.Proof.AttnRefLayout
public import proofs.«01_k».proof.Proof.Gen.Pre_finite_queries_and_keys

@[expose] public section

set_option maxRecDepth 16384

noncomputable section

namespace Cert.Proof.Attn

open Idealize.ShloMosaic Idealize.ShloMosaic.TcCoe Idealize.SL.Sem
open Cert.Proof.AttnMath

/-- An extended real whose absolute value is below infinity is a real number. -/
theorem real_of_abs (x : EReal) (h : max x (-x) < ⊤) : IsReal x := by
  induction x with
  | bot => simp at h
  | top => simp at h
  | coe r => exact ⟨r, rfl⟩

/-- The precondition read at an index: the two bits there. -/
theorem pre_at (X : Proj) (b : Fin 16) (i : Fin 2048) (l : Fin 256) :
    Cert.Pre_finite_queries_and_keys.fn (F := Ideal) X (ix3 b i l)
      = IntOp.andi
          (FloatOps.cmpf (F := Ideal) (φ := .f32) .olt (max (X (ix3 b i ⟨256 + l.val, by omega⟩) : EReal) (-(X (ix3 b i ⟨256 + l.val, by omega⟩) : EReal))) (Ideal.ofBits .f32 0x7F800000#32))
          (FloatOps.cmpf (F := Ideal) (φ := .f32) .olt (max (X (ix3 b i ⟨1024 + l.val, by omega⟩) : EReal) (-(X (ix3 b i ⟨1024 + l.val, by omega⟩) : EReal))) (Ideal.ofBits .f32 0x7F800000#32)) := by
  pointwise [Cert.Pre_finite_queries_and_keys.fn]
  rfl

/-- Two bits whose conjunction is one are both one. -/
theorem andi_one : ∀ p q : BitVec 1, IntOp.andi p q = 1#1 → p = 1#1 ∧ q = 1#1 := by decide

/-- A comparison with infinity that holds. -/
theorem lt_of_bit (x : EReal) (h : FloatOps.cmpf (F := Ideal) (φ := .f32) .olt x (Ideal.ofBits .f32 0x7F800000#32) = 1#1) : x < ⊤ := by
  have e : Ideal.ofBits .f32 0x7F800000#32 = (⊤ : EReal) := by simp [Ideal.ofBits, Ideal.ieee]
  rw [e] at h
  by_contra hx
  have : FloatOps.cmpf (F := Ideal) (φ := .f32) .olt x (⊤ : EReal) = 0#1 := by
    show BitVec.ofBool (decide (x < (⊤ : EReal))) = 0#1
    rw [decide_eq_false hx]
    rfl
  rw [this] at h
  exact absurd h (by decide)

/-- The precondition says that every query and every key is a real number. -/
theorem finite_of_pre (X : Proj) (h : Cert.Pre_finite_queries_and_keys.fn (F := Ideal) X = fun _ => 1#1) : Finite X := by
  intro b hd i c
  have e := congrFun h (ix3 b i ⟨hd.val * 64 + c.val, by omega⟩)
  rw [pre_at] at e
  obtain ⟨p, q⟩ := andi_one _ _ e
  exact ⟨real_of_abs _ (lt_of_bit _ p), real_of_abs _ (lt_of_bit _ q)⟩

/-- The reference leaves its argument as it was, and no counter raised: it declares none. -/
theorem frame_reference : Cert.quiescent_ReferenceIdeal := fun m g _ =>
  (θ_run Cert.ReferenceIdeal.defs _ _).mono
    (fun r h => ⟨fun c => (h c).2.2.2.2, sem_eq_zero_of_no_sems (by decide) r.2⟩)
    (Cert.ReferenceIdeal.Value.run (F := Ideal) m g)

/-- The idealized kernel leaves its argument as it was, and no counter raised. -/
theorem frame_ideal : Cert.quiescent_KernelIdeal := fun m g _ => frame_attn (F := Ideal) m g

/-- From equal arguments, with real queries and keys, the attention and its reference leave equal results. -/
theorem algebraic : Cert.algebraic_KernelIdeal_ReferenceIdeal_pre_finite_queries_and_keys := by
  intro m g m' g' hpre harg
  have hX := fun c => finite_of_pre _ (hpre c)
  refine ⟨fun c => (dats m 0 c).arrAt 6 Cert.KernelIdeal.cfg0.N,
    fun c => (dats m 0 c).arrAt 7 Cert.KernelIdeal.cfg0.N,
    fun c => (dats m 0 c).arrAt 8 Cert.KernelIdeal.cfg0.N,
    fun c => (dats m 0 c).arrAt 9 Cert.KernelIdeal.cfg0.N, ?_, ?_⟩
  · exact (θ_run Cert.KernelIdeal.defs _ _).mono (fun _ h => h.1) (run_blocks (F := Ideal) m g)
  · refine (θ_run Cert.ReferenceIdeal.defs _ _).mono (fun r h c => ?_) (Cert.ReferenceIdeal.Value.run (F := Ideal) m' g')
    obtain ⟨h0, h1, h2, h3, h4⟩ := h c
    refine ⟨h0.trans ?_, h1.trans ?_, h2.trans ?_, h3.trans ?_, h4⟩
    · rw [Cert.ReferenceIdeal.Read.val_main_v113_eq, harg c]
      exact (Cert.Proof.AttnRef.result0 _ (hX c)).trans (final6 m c (hX c)).symm
    · rw [Cert.ReferenceIdeal.Read.val_main_v114_eq, harg c]
      exact (Cert.Proof.AttnRef.result1 _ (hX c)).trans (final7 m c (hX c)).symm
    · rw [Cert.ReferenceIdeal.Read.val_main_v115_eq, harg c]
      exact (Cert.Proof.AttnRef.result2 _ (hX c)).trans (final8 m c (hX c)).symm
    · rw [Cert.ReferenceIdeal.Read.val_main_v116_eq, harg c]
      exact (Cert.Proof.AttnRef.result3 _ (hX c)).trans (final9 m c (hX c)).symm

end Cert.Proof.Attn

end
-- ==== Proof.AttnFrame.lean ====
/- The attention kernel as printed: its run on words of bits. -/
module

public import proofs.«01_k».proof.Defs
public import proofs.«01_k».proof.Proof.AttnRun
public import proofs.«01_k».proof.Proof.Gen.Kernel

@[expose] public section

set_option maxRecDepth 16384

noncomputable section

namespace Cert.Proof.Attn

open Idealize.ShloMosaic Idealize.ShloMosaic.TcCoe Idealize.SL.Sem

/-- On bits a named constant is the word it was printed as. -/
local instance namedBits : Named Bits where
  named _ _ {φ} b := FloatOps.ofBits (F := Bits) φ b

/-- The two programs' body tables are the same on bits: their texts differ in the named word alone. -/
theorem bodies_eq : Cert.Kernel.defs₀ (F := Bits) = Cert.KernelIdeal.defs₀ (F := Bits) := by
  unfold Cert.Kernel.defs₀ Cert.KernelIdeal.defs₀
  refine congrArg Defs.onTc (funext fun l => funext fun a => ?_)
  match l, a with
  | 0, (t, s) => rfl
  | ⟨_ + 1, h⟩, _ => exact absurd h (Nat.not_lt.2 (Nat.le_add_left _ _))

/-- So are the programs' tables with the pipeline's region. -/
theorem tables_eq : Cert.Kernel.defs (F := Bits) = Cert.KernelIdeal.defs (F := Bits) :=
  congrArg (Pipeline.defs (Cert.KernelIdeal.pcfgs (F := Bits))) bodies_eq

/-- The kernel as printed leaves its argument as it was, and no counter raised. -/
theorem frame_kernel : Cert.quiescent_Kernel := fun m g _ => by
  rw [show Cert.Kernel.defs (F := Bits) = Cert.KernelIdeal.defs (F := Bits) from tables_eq]
  exact frame_attn (F := Bits) m g

end Cert.Proof.Attn

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Loops
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Loops
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.Kernel2
public import proofs.«01_k».proof.Proof.Gen.Kernel2.Skeleton
public import proofs.«01_k».proof.Proof.Gen.Kernel2.Launch
public import proofs.«01_k».proof.Proof.Gen.Kernel2.Points
public import proofs.«01_k».proof.Proof.Gen.Kernel2.Frame
public import proofs.«01_k».proof.Proof.Gen.Kernel2Ideal
public import proofs.«01_k».proof.Proof.Gen.Kernel2Ideal.Skeleton
public import proofs.«01_k».proof.Proof.Gen.Kernel2Ideal.Launch
public import proofs.«01_k».proof.Proof.Gen.Kernel2Ideal.Points
public import proofs.«01_k».proof.Proof.Gen.Kernel2Ideal.Frame
public import proofs.«01_k».proof.Proof.Gen.Reference2Ideal
public import proofs.«01_k».proof.Proof.Gen.ReferenceIdeal.Read
public import proofs.«01_k».proof.Proof.Gen.Reference2Ideal.Read
public import proofs.«01_k».proof.Proof.Gen.Kernel2Ideal.Value
public import proofs.«01_k».proof.Proof.Gen.Kernel3
public import proofs.«01_k».proof.Proof.Gen.Kernel3.Skeleton
public import proofs.«01_k».proof.Proof.Gen.Kernel3.Launch
public import proofs.«01_k».proof.Proof.Gen.Kernel3.Points
public import proofs.«01_k».proof.Proof.Gen.Kernel3.Frame
public import proofs.«01_k».proof.Proof.Gen.Kernel3Ideal
public import proofs.«01_k».proof.Proof.Gen.Kernel3Ideal.Skeleton
public import proofs.«01_k».proof.Proof.Gen.Kernel3Ideal.Launch
public import proofs.«01_k».proof.Proof.Gen.Kernel3Ideal.Points
public import proofs.«01_k».proof.Proof.Gen.Kernel3Ideal.Frame
public import proofs.«01_k».proof.Proof.Gen.Reference3Ideal
public import proofs.«01_k».proof.Proof.Gen.Kernel3Ideal.Value
public import proofs.«01_k».proof.Proof.Gen.Reference3Ideal.Read
public import proofs.«01_k».proof.Proof.InProj
public import proofs.«01_k».proof.Proof.OutProj
public import proofs.«01_k».proof.Proof.Attn
public import proofs.«01_k».proof.Proof.AttnFrame
public import proofs.«01_k».proof.Proof.Gen.Pre_finite_queries_and_keys
public import Idealize.ShloMosaic.Adequacy
public import Idealize.ShloMosaic.Init

@[expose] public section

noncomputable section

namespace Cert.Proof

open Idealize.ShloMosaic Idealize.SL.Sem

/-- Every claim of the three programs: the attention, the input projection and the output projection. -/
theorem claim : Cert.Claim := ⟨Cert.Kernel.Gen.facts, Cert.KernelIdeal.Gen.facts, Cert.ReferenceIdeal.Gen.facts,
  Cert.Kernel2.Gen.facts, Cert.Kernel2Ideal.Gen.facts, Cert.Reference2Ideal.Gen.facts,
  Cert.Kernel3.Gen.facts, Cert.Kernel3Ideal.Gen.facts, Cert.Reference3Ideal.Gen.facts,
  Cert.Pre_finite_queries_and_keys.Gen.facts,
  Attn.frame_kernel,
  Attn.frame_ideal,
  fun m g _ => Attn.frame_ideal m g trivial,
  Attn.frame_reference,
  fun m g _ => Attn.frame_reference m g trivial,
  fun m g _ => Cert.Kernel2.Gen.frame m g,
  fun m g _ => Cert.Kernel2Ideal.Gen.frame m g,
  InProj.frame_reference,
  fun m g _ => Cert.Kernel3.Gen.frame m g,
  fun m g _ => Cert.Kernel3Ideal.Gen.frame m g,
  OutProj.frame_reference,
  IdealRules.named_const.statement Cert.KernelIdeal.κ "mask" .f32 0xF149F2CA#32 ⊥ rfl,
  Attn.algebraic,
  trivial,
  InProj.algebraic,
  trivial,
  OutProj.algebraic⟩

end Cert.Proof

end
